-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v77) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S256x1x6528 : Shape := ⟨3, ![256, 1, 6528]⟩
abbrev S9600x3264 : Shape := ⟨2, ![9600, 3264]⟩
abbrev S9600x204 : Shape := ⟨2, ![9600, 204]⟩
abbrev S3264x9600 : Shape := ⟨2, ![3264, 9600]⟩
abbrev S204x9600 : Shape := ⟨2, ![204, 9600]⟩
abbrev S256x6528 : Shape := ⟨2, ![256, 6528]⟩
abbrev S256x9600 : Shape := ⟨2, ![256, 9600]⟩
abbrev S3264x512 : Shape := ⟨2, ![3264, 512]⟩
abbrev S204x512 : Shape := ⟨2, ![204, 512]⟩
abbrev S256x512 : Shape := ⟨2, ![256, 512]⟩
abbrev S128x512 : Shape := ⟨2, ![128, 512]⟩
abbrev S128x1x512 : Shape := ⟨3, ![128, 1, 512]⟩
abbrev S128x2x512 : Shape := ⟨3, ![128, 2, 512]⟩
abbrev S1x512 : Shape := ⟨2, ![1, 512]⟩
abbrev S16x512 : Shape := ⟨2, ![16, 512]⟩
abbrev S32x512 : Shape := ⟨2, ![32, 512]⟩
abbrev S256x256 : Shape := ⟨2, ![256, 256]⟩
abbrev S64x512 : Shape := ⟨2, ![64, 512]⟩
abbrev S64x1x512 : Shape := ⟨3, ![64, 1, 512]⟩
abbrev S64x2x512 : Shape := ⟨3, ![64, 2, 512]⟩
abbrev S256x128 : Shape := ⟨2, ![256, 128]⟩
abbrev S256x1x9600 : Shape := ⟨3, ![256, 1, 9600]⟩

abbrev nBuf : Space → Nat
  | .hbm => 8
  | .vmem => 8
  | .smem => 0
  | _ => 0

abbrev bufTy : (tb : Table) → Fin (tcTables nBuf tb) → BufTy
  | .hbm, ⟨0, _⟩ => ⟨S256x1x6528, .bf16⟩
  | .hbm, ⟨1, _⟩ => ⟨S9600x3264, .i8⟩
  | .hbm, ⟨2, _⟩ => ⟨S9600x204, .i8⟩
  | .hbm, ⟨3, _⟩ => ⟨S3264x9600, .i8⟩
  | .hbm, ⟨4, _⟩ => ⟨S204x9600, .i8⟩
  | .hbm, ⟨5, _⟩ => ⟨S256x6528, .bf16⟩
  | .hbm, ⟨6, _⟩ => ⟨S256x9600, .bf16⟩
  | .hbm, ⟨7, _⟩ => ⟨S256x1x9600, .bf16⟩
  | .local _ .vmem, ⟨0, _⟩ => ⟨S256x6528, .bf16⟩
  | .local _ .vmem, ⟨1, _⟩ => ⟨S3264x512, .i8⟩
  | .local _ .vmem, ⟨2, _⟩ => ⟨S3264x512, .i8⟩
  | .local _ .vmem, ⟨3, _⟩ => ⟨S204x512, .i8⟩
  | .local _ .vmem, ⟨4, _⟩ => ⟨S204x512, .i8⟩
  | .local _ .vmem, ⟨5, _⟩ => ⟨S256x512, .bf16⟩
  | .local _ .vmem, ⟨6, _⟩ => ⟨S256x512, .bf16⟩
  | .local _ .vmem, ⟨7, _⟩ => ⟨S204x512, .i32⟩
  | _, _ => ⟨S256x1x6528, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![19], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S256x6528 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S3264x512 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S204x512 .i8 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ReferenceIdeal.lean ====
abbrev S256x1x6528 : Shape := ⟨3, ![256, 1, 6528]⟩
abbrev S9600x3264 : Shape := ⟨2, ![9600, 3264]⟩
abbrev S9600x204 : Shape := ⟨2, ![9600, 204]⟩
abbrev S_ : Shape := ⟨0, ![]⟩
abbrev S9600x204x16 : Shape := ⟨3, ![9600, 204, 16]⟩
abbrev S256x1x3264 : Shape := ⟨3, ![256, 1, 3264]⟩
abbrev S256x1x9600 : Shape := ⟨3, ![256, 1, 9600]⟩

abbrev nBuf : Space → Nat
  | .hbm => 141
  | .vmem => 0
  | .smem => 0
  | _ => 0

abbrev hbmTy0_0 (i : Nat) : BufTy := match i % 128 with
  | 0 => ⟨S256x1x6528, .bf16⟩
  | 1 => ⟨S9600x3264, .i8⟩
  | 2 => ⟨S9600x204, .i8⟩
  | 3 => ⟨S9600x204, .i32⟩
  | 4 => ⟨S_, .i32⟩
  | 5 => ⟨S9600x204, .i32⟩
  | 6 => ⟨S9600x204, .i32⟩
  | 7 => ⟨S9600x204, .f32⟩
  | 8 => ⟨S_, .f32⟩
  | 9 => ⟨S9600x204, .f32⟩
  | 10 => ⟨S9600x204, .f32⟩
  | 11 => ⟨S_, .i32⟩
  | 12 => ⟨S9600x204, .i32⟩
  | 13 => ⟨S9600x204, .i1⟩
  | 14 => ⟨S_, .i32⟩
  | 15 => ⟨S9600x204, .i32⟩
  | 16 => ⟨S9600x204, .i1⟩
  | 17 => ⟨S_, .f32⟩
  | 18 => ⟨S_, .f32⟩
  | 19 => ⟨S9600x204, .f32⟩
  | 20 => ⟨S9600x204, .f32⟩
  | 21 => ⟨S_, .f32⟩
  | 22 => ⟨S_, .f32⟩
  | 23 => ⟨S9600x204, .f32⟩
  | 24 => ⟨S9600x204, .f32⟩
  | 25 => ⟨S9600x204, .bf16⟩
  | 26 => ⟨S9600x204x16, .bf16⟩
  | 27 => ⟨S9600x3264, .bf16⟩
  | 28 => ⟨S9600x3264, .i32⟩
  | 29 => ⟨S_, .i32⟩
  | 30 => ⟨S9600x3264, .i32⟩
  | 31 => ⟨S9600x3264, .i32⟩
  | 32 => ⟨S_, .i32⟩
  | 33 => ⟨S9600x3264, .i32⟩
  | 34 => ⟨S9600x3264, .i32⟩
  | 35 => ⟨S_, .i32⟩
  | 36 => ⟨S9600x3264, .i32⟩
  | 37 => ⟨S9600x3264, .i1⟩
  | 38 => ⟨S_, .i32⟩
  | 39 => ⟨S9600x3264, .i32⟩
  | 40 => ⟨S9600x3264, .i32⟩
  | 41 => ⟨S_, .i32⟩
  | 42 => ⟨S9600x3264, .i32⟩
  | 43 => ⟨S9600x3264, .i1⟩
  | 44 => ⟨S_, .i32⟩
  | 45 => ⟨S9600x3264, .i32⟩
  | 46 => ⟨S9600x3264, .i32⟩
  | 47 => ⟨S_, .i32⟩
  | 48 => ⟨S9600x3264, .i32⟩
  | 49 => ⟨S9600x3264, .i1⟩
  | 50 => ⟨S_, .i32⟩
  | 51 => ⟨S9600x3264, .i32⟩
  | 52 => ⟨S9600x3264, .i32⟩
  | 53 => ⟨S_, .i32⟩
  | 54 => ⟨S9600x3264, .i32⟩
  | 55 => ⟨S9600x3264, .i1⟩
  | 56 => ⟨S_, .bf16⟩
  | 57 => ⟨S_, .bf16⟩
  | 58 => ⟨S9600x3264, .bf16⟩
  | 59 => ⟨S9600x3264, .bf16⟩
  | 60 => ⟨S9600x3264, .bf16⟩
  | 61 => ⟨S_, .bf16⟩
  | 62 => ⟨S_, .bf16⟩
  | 63 => ⟨S9600x3264, .bf16⟩
  | 64 => ⟨S9600x3264, .bf16⟩
  | 65 => ⟨S9600x3264, .bf16⟩
  | 66 => ⟨S9600x3264, .bf16⟩
  | 67 => ⟨S_, .bf16⟩
  | 68 => ⟨S_, .bf16⟩
  | 69 => ⟨S9600x3264, .bf16⟩
  | 70 => ⟨S9600x3264, .bf16⟩
  | 71 => ⟨S9600x3264, .bf16⟩
  | 72 => ⟨S_, .bf16⟩
  | 73 => ⟨S_, .bf16⟩
  | 74 => ⟨S9600x3264, .bf16⟩
  | 75 => ⟨S9600x3264, .bf16⟩
  | 76 => ⟨S9600x3264, .bf16⟩
  | 77 => ⟨S9600x3264, .bf16⟩
  | 78 => ⟨S9600x3264, .bf16⟩
  | 79 => ⟨S9600x3264, .bf16⟩
  | 80 => ⟨S9600x3264, .bf16⟩
  | 81 => ⟨S9600x3264, .bf16⟩
  | 82 => ⟨S_, .i32⟩
  | 83 => ⟨S9600x3264, .i32⟩
  | 84 => ⟨S9600x3264, .i32⟩
  | 85 => ⟨S_, .i32⟩
  | 86 => ⟨S9600x3264, .i32⟩
  | 87 => ⟨S9600x3264, .i32⟩
  | 88 => ⟨S_, .i32⟩
  | 89 => ⟨S9600x3264, .i32⟩
  | 90 => ⟨S9600x3264, .i1⟩
  | 91 => ⟨S_, .i32⟩
  | 92 => ⟨S9600x3264, .i32⟩
  | 93 => ⟨S9600x3264, .i32⟩
  | 94 => ⟨S_, .i32⟩
  | 95 => ⟨S9600x3264, .i32⟩
  | 96 => ⟨S9600x3264, .i1⟩
  | 97 => ⟨S_, .i32⟩
  | 98 => ⟨S9600x3264, .i32⟩
  | 99 => ⟨S9600x3264, .i32⟩
  | 100 => ⟨S_, .i32⟩
  | 101 => ⟨S9600x3264, .i32⟩
  | 102 => ⟨S9600x3264, .i1⟩
  | 103 => ⟨S_, .i32⟩
  | 104 => ⟨S9600x3264, .i32⟩
  | 105 => ⟨S9600x3264, .i32⟩
  | 106 => ⟨S_, .i32⟩
  | 107 => ⟨S9600x3264, .i32⟩
  | 108 => ⟨S9600x3264, .i1⟩
  | 109 => ⟨S_, .bf16⟩
  | 110 => ⟨S_, .bf16⟩
  | 111 => ⟨S9600x3264, .bf16⟩
  | 112 => ⟨S9600x3264, .bf16⟩
  | 113 => ⟨S9600x3264, .bf16⟩
  | 114 => ⟨S_, .bf16⟩
  | 115 => ⟨S_, .bf16⟩
  | 116 => ⟨S9600x3264, .bf16⟩
  | 117 => ⟨S9600x3264, .bf16⟩
  | 118 => ⟨S9600x3264, .bf16⟩
  | 119 => ⟨S9600x3264, .bf16⟩
  | 120 => ⟨S_, .bf16⟩
  | 121 => ⟨S_, .bf16⟩
  | 122 => ⟨S9600x3264, .bf16⟩
  | 123 => ⟨S9600x3264, .bf16⟩
  | 124 => ⟨S9600x3264, .bf16⟩
  | 125 => ⟨S_, .bf16⟩
  | 126 => ⟨S_, .bf16⟩
  | 127 => ⟨S9600x3264, .bf16⟩
  | _ => ⟨S256x1x6528, .bf16⟩

abbrev hbmTy0_1 (i : Nat) : BufTy := match i % 128 with
  | 0 => ⟨S9600x3264, .bf16⟩
  | 1 => ⟨S9600x3264, .bf16⟩
  | 2 => ⟨S9600x3264, .bf16⟩
  | 3 => ⟨S9600x3264, .bf16⟩
  | 4 => ⟨S9600x3264, .bf16⟩
  | 5 => ⟨S9600x3264, .bf16⟩
  | 6 => ⟨S9600x3264, .bf16⟩
  | 7 => ⟨S256x1x3264, .bf16⟩
  | 8 => ⟨S256x1x9600, .f32⟩
  | 9 => ⟨S256x1x3264, .bf16⟩
  | 10 => ⟨S256x1x9600, .f32⟩
  | 11 => ⟨S256x1x9600, .f32⟩
  | 12 => ⟨S256x1x9600, .bf16⟩
  | _ => ⟨S256x1x6528, .bf16⟩

abbrev hbmTy (i : Nat) : BufTy := match i / 128 with
  | 0 => hbmTy0_0 i
  | 1 => hbmTy0_1 i
  | _ => ⟨S256x1x6528, .bf16⟩

abbrev bufTy : (tb : Table) → Fin (tcTables nBuf tb) → BufTy
  | .hbm, ⟨i, _⟩ => hbmTy i
  | _, _ => ⟨S256x1x6528, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_c_0 : Ref sig .tc := ⟨.hbm, 11, rfl⟩
abbrev main_v6 : Ref sig .tc := ⟨.hbm, 12, rfl⟩
abbrev main_v7 : Ref sig .tc := ⟨.hbm, 13, rfl⟩
abbrev main_c_1 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_call0_v0 : Ref sig .tc := ⟨.hbm, 18, rfl⟩
abbrev main_call0_v1 : Ref sig .tc := ⟨.hbm, 19, rfl⟩
abbrev main_v10 : Ref sig .tc := ⟨.hbm, 20, rfl⟩
abbrev main_cst_3 : Ref sig .tc := ⟨.hbm, 21, rfl⟩
abbrev main_call1_v0 : Ref sig .tc := ⟨.hbm, 22, rfl⟩
abbrev main_call1_v1 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_c_4 : Ref sig .tc := ⟨.hbm, 29, rfl⟩
abbrev main_v16 : Ref sig .tc := ⟨.hbm, 30, rfl⟩
abbrev main_v17 : Ref sig .tc := ⟨.hbm, 31, rfl⟩
abbrev main_c_5 : Ref sig .tc := ⟨.hbm, 32, rfl⟩
abbrev main_v18 : Ref sig .tc := ⟨.hbm, 33, rfl⟩
abbrev main_v19 : Ref sig .tc := ⟨.hbm, 34, rfl⟩
abbrev main_c_6 : Ref sig .tc := ⟨.hbm, 35, rfl⟩
abbrev main_v20 : Ref sig .tc := ⟨.hbm, 36, rfl⟩
abbrev main_v21 : Ref sig .tc := ⟨.hbm, 37, rfl⟩
abbrev main_c_7 : Ref sig .tc := ⟨.hbm, 38, rfl⟩
abbrev main_v22 : Ref sig .tc := ⟨.hbm, 39, rfl⟩
abbrev main_v23 : Ref sig .tc := ⟨.hbm, 40, rfl⟩
abbrev main_c_8 : Ref sig .tc := ⟨.hbm, 41, rfl⟩
abbrev main_v24 : Ref sig .tc := ⟨.hbm, 42, rfl⟩
abbrev main_v25 : Ref sig .tc := ⟨.hbm, 43, rfl⟩
abbrev main_c_9 : Ref sig .tc := ⟨.hbm, 44, rfl⟩
abbrev main_v26 : Ref sig .tc := ⟨.hbm, 45, rfl⟩
abbrev main_v27 : Ref sig .tc := ⟨.hbm, 46, rfl⟩
abbrev main_c_10 : Ref sig .tc := ⟨.hbm, 47, rfl⟩
abbrev main_v28 : Ref sig .tc := ⟨.hbm, 48, rfl⟩
abbrev main_v29 : Ref sig .tc := ⟨.hbm, 49, rfl⟩
abbrev main_c_11 : Ref sig .tc := ⟨.hbm, 50, rfl⟩
abbrev main_v30 : Ref sig .tc := ⟨.hbm, 51, rfl⟩
abbrev main_v31 : Ref sig .tc := ⟨.hbm, 52, rfl⟩
abbrev main_c_12 : Ref sig .tc := ⟨.hbm, 53, rfl⟩
abbrev main_v32 : Ref sig .tc := ⟨.hbm, 54, rfl⟩
abbrev main_v33 : Ref sig .tc := ⟨.hbm, 55, rfl⟩
abbrev main_cst_13 : Ref sig .tc := ⟨.hbm, 56, rfl⟩
abbrev main_cst_14 : Ref sig .tc := ⟨.hbm, 57, rfl⟩
abbrev main_call2_v0 : Ref sig .tc := ⟨.hbm, 58, rfl⟩
abbrev main_call2_v1 : Ref sig .tc := ⟨.hbm, 59, rfl⟩
abbrev main_v34 : Ref sig .tc := ⟨.hbm, 60, rfl⟩
abbrev main_cst_15 : Ref sig .tc := ⟨.hbm, 61, rfl⟩
abbrev main_cst_16 : Ref sig .tc := ⟨.hbm, 62, rfl⟩
abbrev main_call3_v0 : Ref sig .tc := ⟨.hbm, 63, rfl⟩
abbrev main_call3_v1 : Ref sig .tc := ⟨.hbm, 64, rfl⟩
abbrev main_v35 : Ref sig .tc := ⟨.hbm, 65, rfl⟩
abbrev main_v36 : Ref sig .tc := ⟨.hbm, 66, rfl⟩
abbrev main_cst_17 : Ref sig .tc := ⟨.hbm, 67, rfl⟩
abbrev main_cst_18 : Ref sig .tc := ⟨.hbm, 68, rfl⟩
abbrev main_call5_v0 : Ref sig .tc := ⟨.hbm, 69, rfl⟩
abbrev main_call5_v1 : Ref sig .tc := ⟨.hbm, 70, rfl⟩
abbrev main_v37 : Ref sig .tc := ⟨.hbm, 71, rfl⟩
abbrev main_cst_19 : Ref sig .tc := ⟨.hbm, 72, rfl⟩
abbrev main_cst_20 : Ref sig .tc := ⟨.hbm, 73, rfl⟩
abbrev main_call6_v0 : Ref sig .tc := ⟨.hbm, 74, rfl⟩
abbrev main_call6_v1 : Ref sig .tc := ⟨.hbm, 75, rfl⟩
abbrev main_v38 : Ref sig .tc := ⟨.hbm, 76, rfl⟩
abbrev main_v39 : Ref sig .tc := ⟨.hbm, 77, rfl⟩
abbrev main_v40 : Ref sig .tc := ⟨.hbm, 78, rfl⟩
abbrev main_v41 : Ref sig .tc := ⟨.hbm, 79, rfl⟩
abbrev main_v42 : Ref sig .tc := ⟨.hbm, 80, rfl⟩
abbrev main_v43 : Ref sig .tc := ⟨.hbm, 81, rfl⟩
abbrev main_c_21 : Ref sig .tc := ⟨.hbm, 82, rfl⟩
abbrev main_v44 : Ref sig .tc := ⟨.hbm, 83, rfl⟩
abbrev main_v45 : Ref sig .tc := ⟨.hbm, 84, rfl⟩
abbrev main_c_22 : Ref sig .tc := ⟨.hbm, 85, rfl⟩
abbrev main_v46 : Ref sig .tc := ⟨.hbm, 86, rfl⟩
abbrev main_v47 : Ref sig .tc := ⟨.hbm, 87, rfl⟩
abbrev main_c_23 : Ref sig .tc := ⟨.hbm, 88, rfl⟩
abbrev main_v48 : Ref sig .tc := ⟨.hbm, 89, rfl⟩
abbrev main_v49 : Ref sig .tc := ⟨.hbm, 90, rfl⟩
abbrev main_c_24 : Ref sig .tc := ⟨.hbm, 91, rfl⟩
abbrev main_v50 : Ref sig .tc := ⟨.hbm, 92, rfl⟩
abbrev main_v51 : Ref sig .tc := ⟨.hbm, 93, rfl⟩
abbrev main_c_25 : Ref sig .tc := ⟨.hbm, 94, rfl⟩
abbrev main_v52 : Ref sig .tc := ⟨.hbm, 95, rfl⟩
abbrev main_v53 : Ref sig .tc := ⟨.hbm, 96, rfl⟩
abbrev main_c_26 : Ref sig .tc := ⟨.hbm, 97, rfl⟩
abbrev main_v54 : Ref sig .tc := ⟨.hbm, 98, rfl⟩
abbrev main_v55 : Ref sig .tc := ⟨.hbm, 99, rfl⟩
abbrev main_c_27 : Ref sig .tc := ⟨.hbm, 100, rfl⟩
abbrev main_v56 : Ref sig .tc := ⟨.hbm, 101, rfl⟩
abbrev main_v57 : Ref sig .tc := ⟨.hbm, 102, rfl⟩
abbrev main_c_28 : Ref sig .tc := ⟨.hbm, 103, rfl⟩
abbrev main_v58 : Ref sig .tc := ⟨.hbm, 104, rfl⟩
abbrev main_v59 : Ref sig .tc := ⟨.hbm, 105, rfl⟩
abbrev main_c_29 : Ref sig .tc := ⟨.hbm, 106, rfl⟩
abbrev main_v60 : Ref sig .tc := ⟨.hbm, 107, rfl⟩
abbrev main_v61 : Ref sig .tc := ⟨.hbm, 108, rfl⟩
abbrev main_cst_30 : Ref sig .tc := ⟨.hbm, 109, rfl⟩
abbrev main_cst_31 : Ref sig .tc := ⟨.hbm, 110, rfl⟩
abbrev main_call10_v0 : Ref sig .tc := ⟨.hbm, 111, rfl⟩
abbrev main_call10_v1 : Ref sig .tc := ⟨.hbm, 112, rfl⟩
abbrev main_v62 : Ref sig .tc := ⟨.hbm, 113, rfl⟩
abbrev main_cst_32 : Ref sig .tc := ⟨.hbm, 114, rfl⟩
abbrev main_cst_33 : Ref sig .tc := ⟨.hbm, 115, rfl⟩
abbrev main_call11_v0 : Ref sig .tc := ⟨.hbm, 116, rfl⟩
abbrev main_call11_v1 : Ref sig .tc := ⟨.hbm, 117, rfl⟩
abbrev main_v63 : Ref sig .tc := ⟨.hbm, 118, rfl⟩
abbrev main_v64 : Ref sig .tc := ⟨.hbm, 119, rfl⟩
abbrev main_cst_34 : Ref sig .tc := ⟨.hbm, 120, rfl⟩
abbrev main_cst_35 : Ref sig .tc := ⟨.hbm, 121, rfl⟩
abbrev main_call13_v0 : Ref sig .tc := ⟨.hbm, 122, rfl⟩
abbrev main_call13_v1 : Ref sig .tc := ⟨.hbm, 123, rfl⟩
abbrev main_v65 : Ref sig .tc := ⟨.hbm, 124, rfl⟩
abbrev main_cst_36 : Ref sig .tc := ⟨.hbm, 125, rfl⟩
abbrev main_cst_37 : Ref sig .tc := ⟨.hbm, 126, rfl⟩
abbrev main_call14_v0 : Ref sig .tc := ⟨.hbm, 127, rfl⟩
abbrev main_call14_v1 : Ref sig .tc := ⟨.hbm, 128, rfl⟩
abbrev main_v66 : Ref sig .tc := ⟨.hbm, 129, rfl⟩
abbrev main_v67 : Ref sig .tc := ⟨.hbm, 130, rfl⟩
abbrev main_v68 : Ref sig .tc := ⟨.hbm, 131, rfl⟩
abbrev main_v69 : Ref sig .tc := ⟨.hbm, 132, rfl⟩
abbrev main_v70 : Ref sig .tc := ⟨.hbm, 133, rfl⟩
abbrev main_v71 : Ref sig .tc := ⟨.hbm, 134, rfl⟩
abbrev main_v72 : Ref sig .tc := ⟨.hbm, 135, rfl⟩
abbrev main_v73 : Ref sig .tc := ⟨.hbm, 136, rfl⟩
abbrev main_v74 : Ref sig .tc := ⟨.hbm, 137, rfl⟩
abbrev main_v75 : Ref sig .tc := ⟨.hbm, 138, rfl⟩
abbrev main_v76 : Ref sig .tc := ⟨.hbm, 139, rfl⟩
abbrev main_v77 : Ref sig .tc := ⟨.hbm, 140, rfl⟩

abbrev nD : Nat := 1
abbrev τ : Topo := Topo.v7x

variable {F : FTy → Type} [FloatOps F]
-- ==== Proof.KernelBody.lean ====
module

public import proofs.«01_k».proof.Proof.Gen.Kernel.Skeleton
public import proofs.«01_k».proof.Proof.Gen.Kernel.Frame
public import Idealize.ShloMosaic.Lib.Tactic

@[expose] public section

set_option maxRecDepth 16384

noncomputable section

namespace Cert.Kernel.Body

open Cert.Kernel Cert.Kernel.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- Memref `M`'s buffer on core `c`: its contents type, and it held whole at `f`. -/
abbrev Bf (c : Dev nD) {sp : Space} {S : Shape} {e : EltTy} (M : Memref sig .tc sp S e) : Type := Buf (Elt F) (M.view.loc (c : Thread nD τ))
abbrev pt (c : Dev nD) {sp : Space} {S : Shape} {e : EltTy} (M : Memref sig .tc sp S e) (f : Bf (F := F) c M) : sProp 𝕄 :=
  M.view.loc (c : Thread nD τ) ↦[M.view.set]{fullShare} f

/-- What the body leaves in the result's buffer, over the contents of the three inputs' buffers, with the proof that
    it runs to its return from the five buffers held whole, leaving the inputs as they were, the result's buffer at
    that value and the scratch buffer at something. -/
noncomputable def kernelRun (c : Dev nD) (i : grid0.Coords)
    (M1 : Memref sig .tc .vmem S256x6528 .bf16) (h1 : M1.IsWhole) (M2 : Memref sig .tc .vmem S3264x512 .i8) (h2 : M2.IsWhole)
    (M3 : Memref sig .tc .vmem S204x512 .i8) (h3 : M3.IsWhole) (M4 : Memref sig .tc .vmem S256x512 .bf16) (h4 : M4.IsWhole)
    (M5 : Memref sig .tc .vmem S204x512 .i32) (h5 : M5.IsWhole)
    (f1 : Bf (F := F) c M1) (f2 : Bf (F := F) c M2) (f3 : Bf (F := F) c M3) :
    { W : Bf (F := F) c M4 //
      ∀ (f4 : Bf (F := F) c M4) (f5 : Bf (F := F) c M5) (E : Set ℕ) (Q : PUnit → sProp 𝕄),
        iprop(pt c M1 f1 ∗ pt c M2 f2 ∗ pt c M3 f3 ∗ pt c M4 f4 ∗ pt c M5 f5
          ∗ (iprop(pt c M1 f1 ∗ pt c M2 f2 ∗ pt c M3 f3 ∗ pt c M4 W ∗ (∃ f, pt c M5 f)) -∗ Q ⟨⟩))
        ⊢ wp frame (wpE (defs₀ (F := F)) Variants.none c none) E
            (cc0__body i M1 h1 M2 h2 M3 h3 M4 h4 M5 h5) Q } := by
  refine ⟨?_, fun f4 f5 E Q => ?run⟩
  case run =>
    iintro ⟨H1, H2, H3, H4, H5, Hk⟩
    sl_exec_parts!
    sl_step
    iapply Hk
    isplitl [H1]; · iexact H1
    isplitl [H2]; · iexact H2
    isplitl [H3]; · iexact H3
    isplitl [H4]; · iexact H4
    iexists _; iexact H5

end Cert.Kernel.Body

end
-- ==== Proof.KernelFrame.lean ====
module

public import proofs.«01_k».proof.Proof.KernelBody
public import Idealize.ShloMosaic.Lib.Pipeline.FrameSuffix

@[expose] public section

set_option maxRecDepth 16384

noncomputable section

namespace Cert.Kernel.Body

open Cert.Kernel Cert.Kernel.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligationLoose)

variable {F : FTy → Type} [FloatOps F]

local notation "𝕄" => MT nD τ sig Unit (Elt F) ℕ (UR sig nD τ) ℕ

/-! ## The kernel body on staging buffers stated by what they hold -/

/-- The scratch buffer held whole, as the body takes it. -/
theorem pt_scratch (c : Dev nD) (f : Buf (Elt F) ((c : Thread nD τ).loc cc0_scratch0)) :
    (iprop(((c : Thread nD τ).loc cc0_scratch0) ↦{fullShare} f) : sProp 𝕄) = pt c (Memref.whole cc0_scratch0) f := by
  unfold pt; rw [(Memref.isWhole_whole _).set_eq_univ]

/-- The body from the inputs' buffers holding `X1`, `X2`, `X3`: they stay, and the result's buffer ends at a value of
    which `P` holds, where `P` is any property of what the run leaves there. -/
theorem sound_kernel (c : Dev nD) (E : Set ℕ) (i : grid0.Coords)
    (M1 : Memref sig .tc .vmem S256x6528 .bf16) (h1 : M1.IsWhole) (M2 : Memref sig .tc .vmem S3264x512 .i8) (h2 : M2.IsWhole)
    (M3 : Memref sig .tc .vmem S204x512 .i8) (h3 : M3.IsWhole) (M4 : Memref sig .tc .vmem S256x512 .bf16) (h4 : M4.IsWhole)
    (X1 : S256x6528.Idx → Elt F .bf16) (X2 : S3264x512.Idx → Elt F .i8) (X3 : S204x512.Idx → Elt F .i8)
    (P : (S256x512.Idx → Elt F .bf16) → Prop)
    (hP : ∀ (f1 : Bf (F := F) c M1) (f2 : Bf (F := F) c M2) (f3 : Bf (F := F) c M3),
      M1.view.read (Elt F) f1 = X1 → M2.view.read (Elt F) f2 = X2 → M3.view.read (Elt F) f3 = X3 →
      P (M4.view.read (Elt F) (kernelRun c i M1 h1 M2 h2 M3 h3 M4 h4 (Memref.whole cc0_scratch0) (Memref.isWhole_whole _) f1 f2 f3).1))
    (X4 : S256x512.Idx → Elt F .bf16) (K : PUnit → sProp 𝕄) :
    iprop(owns (c : Thread nD τ) M1 fullShare X1 ∗ owns (c : Thread nD τ) M2 fullShare X2
        ∗ owns (c : Thread nD τ) M3 fullShare X3 ∗ owns (c : Thread nD τ) M4 fullShare X4
        ∗ (∃ f : Buf (Elt F) ((c : Thread nD τ).loc cc0_scratch0), ((c : Thread nD τ).loc cc0_scratch0) ↦{fullShare} f)
        ∗ (iprop(owns (c : Thread nD τ) M1 fullShare X1 ∗ owns (c : Thread nD τ) M2 fullShare X2
            ∗ owns (c : Thread nD τ) M3 fullShare X3 ∗ (∃ Y, ⌜P Y⌝ ∗ owns (c : Thread nD τ) M4 fullShare Y)
            ∗ (∃ f : Buf (Elt F) ((c : Thread nD τ).loc cc0_scratch0), ((c : Thread nD τ).loc cc0_scratch0) ↦{fullShare} f)) -∗ K ⟨⟩))
      ⊢ wp frame (wpE (defs₀ (F := F)) Variants.none c none) E
          (cc0__body i M1 h1 M2 h2 M3 h3 M4 h4 (Memref.whole cc0_scratch0) (Memref.isWhole_whole _)) K := by
  unfold owns
  simp only [pt_scratch]
  iintro ⟨⟨%f1, %e1, H1⟩, ⟨%f2, %e2, H2⟩, ⟨%f3, %e3, H3⟩, ⟨%f4, %e4, H4⟩, ⟨%f5, H5⟩, Hk⟩
  iapply ((kernelRun c i M1 h1 M2 h2 M3 h3 M4 h4 (Memref.whole cc0_scratch0) (Memref.isWhole_whole _) f1 f2 f3).2 f4 f5 E K)
  isplitl [H1]; · iexact H1
  isplitl [H2]; · iexact H2
  isplitl [H3]; · iexact H3
  isplitl [H4]; · iexact H4
  isplitl [H5]; · iexact H5
  iintro ⟨H1, H2, H3, H4, ⟨%f, H5⟩⟩
  iapply Hk
  isplitl [H1]
  · iexists f1; isplitr; · ipureintro; exact e1
    iexact H1
  isplitl [H2]
  · iexists f2; isplitr; · ipureintro; exact e2
    iexact H2
  isplitl [H3]
  · iexists f3; isplitr; · ipureintro; exact e3
    iexact H3
  isplitl [H4]
  · iexists _; isplitr; · ipureintro; exact hP f1 f2 f3 e1 e2 e3
    iexists _; isplitr; · ipureintro; rfl
    iexact H4
  iexists f; iexact H5

variable (m : (ℓ : Loc nD τ sig) → Buf (Elt F) ℓ) (ρ : Dev nD → PrngReg)

/-! ## The proof data -/

/-- Windows 1 and 2 at point `t`: the block on the columns inside the array, zero words past them. -/
def blk1 (c : Dev nD) (t : Fin cfg0.N) : S3264x512.Idx → Elt F .i8 :=
  win0_1.fill (grid0.coords t) (fun _ => 0#8) (iblk m c 1 t)
def blk2 (c : Dev nD) (t : Fin cfg0.N) : S204x512.Idx → Elt F .i8 :=
  win0_2.fill (grid0.coords t) (fun _ => 0#8) (iblk m c 2 t)

/-- The proof data, over what the result's buffer is said to hold after the body (`out`). -/
def dats (out : Dev nD → Fin cfg0.N → S256x512.Idx → Elt F .bf16) (_ : Fin 1) (c : Dev nD) :
    Dat τ (Elt F) Unit ℕ (UR sig nD τ) ℕ cfg0 c where
  A w := V m c (Pipeline.arrRef spec0 w)
  after w t := match w with
    | ⟨0, _⟩ => iblk m c 0 t
    | ⟨1, _⟩ => blk1 m c t
    | ⟨2, _⟩ => blk2 m c t
    | ⟨3, _⟩ => out c t
  Φ _ := Pipeline.ΦA spec0 c
  q _ := fullShare
  owed _ := 0

variable (out : Dev nD → Fin cfg0.N → S256x512.Idx → Elt F .bf16)

theorem before_0 (c : Dev nD) (t : Fin cfg0.N) (d) : (dats m out 0 c).before (0 : Fin 4) t d = iblk m c 0 t :=
  before0_0_of m (dats m out 0 c) rfl (fun _ => rfl) t d
theorem before_1 (c : Dev nD) (t : Fin cfg0.N) (d) :
    (dats m out 0 c).before (1 : Fin 4) t d = win0_1.fill (grid0.coords t) d (iblk m c 1 t) := by
  unfold Dat.before; rw [if_pos (fetch0_1 t)]; rfl
theorem before_2 (c : Dev nD) (t : Fin cfg0.N) (d) :
    (dats m out 0 c).before (2 : Fin 4) t d = win0_2.fill (grid0.coords t) d (iblk m c 2 t) := by
  unfold Dat.before; rw [if_pos (fetch0_2 t)]; rfl

theorem defs₀_row (t : Fin cfg0.N) : defs₀ (F := F) .tc cfg0.body (cfg0.bodyArgs t (cfg0.slots t)) = bodyAt0 t := by
  unfold defs₀; rw [Defs.onTc_tc]

theorem after_eq1 (c : Dev nD) (t : Fin cfg0.N) : (dats m out 0 c).after (1 : Fin 4) t = blk1 m c t := by unfold dats; rfl
theorem after_eq2 (c : Dev nD) (t : Fin cfg0.N) : (dats m out 0 c).after (2 : Fin 4) t = blk2 m c t := by unfold dats; rfl
theorem after_eq3 (c : Dev nD) (t : Fin cfg0.N) : (dats m out 0 c).after (3 : Fin 4) t = out c t := by unfold dats; rfl

/-- An input's clipped block filled out again is the fill of the block. -/
theorem after_1 (c : Dev nD) (t : Fin cfg0.N) (d) :
    (win0 1).fill (grid0.coords t) d ((win0 1).cut (grid0.coords t) ((dats m out 0 c).after (1 : Fin 4) t))
      = win0_1.fill (grid0.coords t) d (iblk m c 1 t) := by
  rw [after_eq1]; unfold blk1
  exact congrArg (win0_1.fill (grid0.coords t) d) (win0_1.cut_fill (grid0.coords t) (fun _ => 0#8) (iblk m c 1 t))
theorem after_2 (c : Dev nD) (t : Fin cfg0.N) (d) :
    (win0 2).fill (grid0.coords t) d ((win0 2).cut (grid0.coords t) ((dats m out 0 c).after (2 : Fin 4) t))
      = win0_2.fill (grid0.coords t) d (iblk m c 2 t) := by
  rw [after_eq2]; unfold blk2
  exact congrArg (win0_2.fill (grid0.coords t) d) (win0_2.cut_fill (grid0.coords t) (fun _ => 0#8) (iblk m c 2 t))

/-- The result's window forgotten. -/
def fgt3 : Fin cfg0.W → Bool := fun | 3 => true | _ => false

/-- The body at point `t` on the staging buffers there: each input's buffer stays, the result's ends at a value of
    which `P` holds. -/
theorem sound_at (c : Dev nD) (t : Fin cfg0.N) (d1 : S3264x512.Idx → Elt F .i8) (d2 : S204x512.Idx → Elt F .i8)
    (X4 : S256x512.Idx → Elt F .bf16) (P : (S256x512.Idx → Elt F .bf16) → Prop)
    (hP : ∀ (f1 : Bf (F := F) c (st0_0 t)) (f2 : Bf (F := F) c (st0_1 t)) (f3 : Bf (F := F) c (st0_2 t)),
      (st0_0 t).view.read (Elt F) f1 = iblk m c 0 t →
      (st0_1 t).view.read (Elt F) f2 = win0_1.fill (grid0.coords t) d1 (iblk m c 1 t) →
      (st0_2 t).view.read (Elt F) f3 = win0_2.fill (grid0.coords t) d2 (iblk m c 2 t) →
      P ((st0_3 t).view.read (Elt F) (kernelRun c (grid0.coords t) (st0_0 t) (hstage0_0 ((cfg0.slots t 0).cast nbuf0_0))
        (st0_1 t) (hstage0_1 ((cfg0.slots t 1).cast nbuf0_1)) (st0_2 t) (hstage0_2 ((cfg0.slots t 2).cast nbuf0_2))
        (st0_3 t) (hstage0_3 ((cfg0.slots t 3).cast nbuf0_3)) (Memref.whole cc0_scratch0) (Memref.isWhole_whole _) f1 f2 f3).1))
    (Q : PUnit → sProp 𝕄) :
    iprop(Pipeline.ΦA spec0 c
        ∗ owns (c : Thread nD τ) (st0_0 t) fullShare (iblk m c 0 t)
        ∗ owns (c : Thread nD τ) (st0_1 t) fullShare (win0_1.fill (grid0.coords t) d1 (iblk m c 1 t))
        ∗ owns (c : Thread nD τ) (st0_2 t) fullShare (win0_2.fill (grid0.coords t) d2 (iblk m c 2 t))
        ∗ owns (c : Thread nD τ) (st0_3 t) fullShare X4
        ∗ (iprop(Pipeline.ΦA spec0 c
            ∗ owns (c : Thread nD τ) (st0_0 t) fullShare (iblk m c 0 t)
            ∗ owns (c : Thread nD τ) (st0_1 t) fullShare (win0_1.fill (grid0.coords t) d1 (iblk m c 1 t))
            ∗ owns (c : Thread nD τ) (st0_2 t) fullShare (win0_2.fill (grid0.coords t) d2 (iblk m c 2 t))
            ∗ (∃ Y, ⌜P Y⌝ ∗ owns (c : Thread nD τ) (st0_3 t) fullShare Y)) -∗ Q ⟨⟩))
      ⊢ wp frame (wpE (defs₀ (F := F)) Variants.none c none) Set.univ (bodyAt0 t) Q := by
  unfold Pipeline.ΦA
  rw [scopedRest0_eq]
  iintro ⟨⟨Hs, Hp⟩, H0, H1, H2, H3, Hk⟩
  iapply (sound_kernel c Set.univ (grid0.coords t) _ _ _ _ _ _ _ _ _ _ _ P hP X4 _)
  isplitl [H0]; · iexact H0
  isplitl [H1]; · iexact H1
  isplitl [H2]; · iexact H2
  isplitl [H3]; · iexact H3
  isplitl [Hs]; · iexact Hs
  iintro ⟨H0, H1, H2, H3, Hs⟩
  iapply Hk
  isplitl [Hs Hp]
  · isplitl [Hs]; · iexact Hs
    iexact Hp
  isplitl [H0]; · iexact H0
  isplitl [H1]; · iexact H1
  isplitl [H2]; · iexact H2
  iexact H3

/-- The body obligation with nothing said of the result. -/
theorem body_forget (c : Dev nD) :
    BodyObligationLoose (dats m out 0 c) (defs₀ (F := F)) Variants.none () Set.univ fgt3 := fun t => by
  rw [bigSep_W0, bigSep_W0, defs₀_row]
  simp only [fgt3]
  rw [show (dats m out 0 c).Φ t.succ = Pipeline.ΦA spec0 c from rfl,
    show (dats m out 0 c).Φ t.castSucc = Pipeline.ΦA spec0 c from rfl,
    show (dats m out 0 c).owesAt () t.succ = (dats m out 0 c).owesAt () t.castSucc from rfl]
  iintro ⟨HΦ, Ho, ⟨%d0, H0⟩, ⟨%d1, H1⟩, ⟨%d2, H2⟩, ⟨%X, H3⟩⟩
  rw [before_0 m out c t d0, before_1 m out c t d1, before_2 m out c t d2]
  iapply (sound_at m c t d1 d2 X (fun _ => True) (fun _ _ _ _ _ _ => trivial) _)
  isplitl [HΦ]; · iexact HΦ
  isplitl [H0]; · iexact H0
  isplitl [H1]; · iexact H1
  isplitl [H2]; · iexact H2
  isplitl [H3]; · iexact H3
  iintro ⟨HΦ, H0, H1, H2, ⟨%Y, %hY, H3⟩⟩
  isplitl [HΦ]; · iexact HΦ
  isplitl [Ho]; · iexact Ho
  isplitl [H0]; · iexact H0
  isplitl [H1]
  · iexists d1
    rw [after_1]
    iexact H1
  isplitl [H2]
  · iexists d2
    rw [after_2]
    iexact H2
  iexists Y
  iexact H3

/-- The body obligation with the result's buffer, on the columns inside the array, at `out`: it holds once the value
    left there is `out` on those columns whatever the inputs' buffers hold past the array's end. -/
theorem body_value (c : Dev nD)
    (hout : ∀ (t : Fin cfg0.N) (d1 : S3264x512.Idx → Elt F .i8) (d2 : S204x512.Idx → Elt F .i8)
      (f1 : Bf (F := F) c (st0_0 t)) (f2 : Bf (F := F) c (st0_1 t)) (f3 : Bf (F := F) c (st0_2 t)),
      (st0_0 t).view.read (Elt F) f1 = iblk m c 0 t →
      (st0_1 t).view.read (Elt F) f2 = win0_1.fill (grid0.coords t) d1 (iblk m c 1 t) →
      (st0_2 t).view.read (Elt F) f3 = win0_2.fill (grid0.coords t) d2 (iblk m c 2 t) →
      win0_3.cut (grid0.coords t) ((st0_3 t).view.read (Elt F) (kernelRun c (grid0.coords t) (st0_0 t) (hstage0_0 ((cfg0.slots t 0).cast nbuf0_0))
        (st0_1 t) (hstage0_1 ((cfg0.slots t 1).cast nbuf0_1)) (st0_2 t) (hstage0_2 ((cfg0.slots t 2).cast nbuf0_2))
        (st0_3 t) (hstage0_3 ((cfg0.slots t 3).cast nbuf0_3)) (Memref.whole cc0_scratch0) (Memref.isWhole_whole _) f1 f2 f3).1)
      = win0_3.cut (grid0.coords t) (out c t)) :
    BodyObligationLoose (dats m out 0 c) (defs₀ (F := F)) Variants.none () Set.univ := fun t => by
  rw [bigSep_W0, bigSep_W0, defs₀_row]
  simp only []
  rw [show (dats m out 0 c).Φ t.succ = Pipeline.ΦA spec0 c from rfl,
    show (dats m out 0 c).Φ t.castSucc = Pipeline.ΦA spec0 c from rfl,
    show (dats m out 0 c).owesAt () t.succ = (dats m out 0 c).owesAt () t.castSucc from rfl]
  iintro ⟨HΦ, Ho, ⟨%d0, H0⟩, ⟨%d1, H1⟩, ⟨%d2, H2⟩, ⟨%d3, H3⟩⟩
  rw [before_0 m out c t d0, before_1 m out c t d1, before_2 m out c t d2]
  iapply (sound_at m c t d1 d2 ((dats m out 0 c).before (3 : Fin 4) t d3)
    (fun Y => win0_3.cut (grid0.coords t) Y = win0_3.cut (grid0.coords t) (out c t)) (fun f1 f2 f3 e1 e2 e3 => hout t d1 d2 f1 f2 f3 e1 e2 e3) _)
  isplitl [HΦ]; · iexact HΦ
  isplitl [H0]; · iexact H0
  isplitl [H1]; · iexact H1
  isplitl [H2]; · iexact H2
  isplitl [H3]; · iexact H3
  iintro ⟨HΦ, H0, H1, H2, ⟨%Y, %hY, H3⟩⟩
  isplitl [HΦ]; · iexact HΦ
  isplitl [Ho]; · iexact Ho
  isplitl [H0]; · iexact H0
  isplitl [H1]
  · iexists d1
    rw [after_1]
    iexact H1
  isplitl [H2]
  · iexists d2
    rw [after_2]
    iexact H2
  iexists Y
  rw [after_eq3, show (win0 3).fill (grid0.coords t) Y ((win0 3).cut (grid0.coords t) (out c t)) = Y from
    (congrArg (win0_3.fill (grid0.coords t) Y) hY.symm).trans (win0_3.fill_cut (grid0.coords t) Y)]
  iexact H3

/-! ## The frame -/

set_option backward.isDefEq.respectTransparency.types false in
/-- The program runs from any memory whose counters are zero; its arguments end unchanged and every counter at zero. -/
theorem quiescent : θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  Pipeline.θ_run_frame_around_T_forget cfgs (dats m (fun _ _ _ => FloatOps.ofBits .bf16 0#16)) 0 launch0 defs₀ Variants.none fgt3
    ({main_v4} : Finset (Ref sig .tc)) m ρ main
    (fun c => body_forget m _ c) (fun c => (dats m _ 0 c).share_full fun _ => rfl) (fun _ _ => rfl) (V0 m) [hostOps1]
    sfx_sub sfx_fresh sfx_keeps
    (by
      intro ops hops op hop b hb
      simp only [List.mem_cons, List.mem_nil_iff, or_false] at hops
      subst hops
      simp only [hostOps1, List.mem_cons, List.mem_nil_iff, or_false] at hop
      subst hop
      simp only [StableHlo.reshape_writes, Finset.mem_singleton] at hb
      by_contra hn
      exact StableHlo.devRef_ne_of_ne (fun e => hn (by rw [e]; exact Finset.mem_singleton_self _)) hb)
    (hmain m Variants.none) (fun _ w => rfl) (fun _ _ => rfl) _
    (fun r h => ⟨fun c => ⟨
      ((h.1 c).2 main_arg0 (Finset.mem_sdiff.mpr ⟨Pipeline.mem_restRefs_of main_arg0 (by decide) (by decide), by decide⟩)).trans (V_main_arg0 m c),
      ((h.1 c).2 main_arg1 (Finset.mem_sdiff.mpr ⟨Pipeline.mem_restRefs_of main_arg1 (by decide) (by decide), by decide⟩)).trans (V_main_arg1 m c),
      ((h.1 c).2 main_arg2 (Finset.mem_sdiff.mpr ⟨Pipeline.mem_restRefs_of main_arg2 (by decide) (by decide), by decide⟩)).trans (V_main_arg2 m c)⟩, h.2⟩)

end Cert.Kernel.Body

end
-- ==== Proof.KernelIdealBody.lean ====
module

public import proofs.«01_k».proof.Proof.Gen.KernelIdeal.Skeleton
public import proofs.«01_k».proof.Proof.Gen.KernelIdeal.Frame
public import Idealize.ShloMosaic.Lib.Tactic

@[expose] public section

set_option maxRecDepth 16384

noncomputable section

namespace Cert.KernelIdeal.Body

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- Memref `M`'s buffer on core `c`: its contents type, and it held whole at `f`. -/
abbrev Bf (c : Dev nD) {sp : Space} {S : Shape} {e : EltTy} (M : Memref sig .tc sp S e) : Type := Buf (Elt F) (M.view.loc (c : Thread nD τ))
abbrev pt (c : Dev nD) {sp : Space} {S : Shape} {e : EltTy} (M : Memref sig .tc sp S e) (f : Bf (F := F) c M) : sProp 𝕄 :=
  M.view.loc (c : Thread nD τ) ↦[M.view.set]{fullShare} f

/-- What the body leaves in the result's buffer, over the contents of the three inputs' buffers, with the proof that
    it runs to its return from the five buffers held whole, leaving the inputs as they were, the result's buffer at
    that value and the scratch buffer at something. -/
noncomputable def kernelRun (c : Dev nD) (i : grid0.Coords)
    (M1 : Memref sig .tc .vmem S256x6528 .bf16) (h1 : M1.IsWhole) (M2 : Memref sig .tc .vmem S3264x512 .i8) (h2 : M2.IsWhole)
    (M3 : Memref sig .tc .vmem S204x512 .i8) (h3 : M3.IsWhole) (M4 : Memref sig .tc .vmem S256x512 .bf16) (h4 : M4.IsWhole)
    (M5 : Memref sig .tc .vmem S204x512 .i32) (h5 : M5.IsWhole)
    (f1 : Bf (F := F) c M1) (f2 : Bf (F := F) c M2) (f3 : Bf (F := F) c M3) :
    { W : Bf (F := F) c M4 //
      ∀ (f4 : Bf (F := F) c M4) (f5 : Bf (F := F) c M5) (E : Set ℕ) (Q : PUnit → sProp 𝕄),
        iprop(pt c M1 f1 ∗ pt c M2 f2 ∗ pt c M3 f3 ∗ pt c M4 f4 ∗ pt c M5 f5
          ∗ (iprop(pt c M1 f1 ∗ pt c M2 f2 ∗ pt c M3 f3 ∗ pt c M4 W ∗ (∃ f, pt c M5 f)) -∗ Q ⟨⟩))
        ⊢ wp frame (wpE (defs₀ (F := F)) Variants.none c none) E
            (cc0__body i M1 h1 M2 h2 M3 h3 M4 h4 M5 h5) Q } := by
  refine ⟨?_, fun f4 f5 E Q => ?run⟩
  case run =>
    iintro ⟨H1, H2, H3, H4, H5, Hk⟩
    sl_exec_parts!
    sl_step
    iapply Hk
    isplitl [H1]; · iexact H1
    isplitl [H2]; · iexact H2
    isplitl [H3]; · iexact H3
    isplitl [H4]; · iexact H4
    iexists _; iexact H5

end Cert.KernelIdeal.Body

end
-- ==== Proof.KernelIdealFrame.lean ====
module

public import proofs.«01_k».proof.Proof.KernelIdealBody
public import Idealize.ShloMosaic.Lib.Pipeline.FrameSuffix

@[expose] public section

set_option maxRecDepth 16384

noncomputable section

namespace Cert.KernelIdeal.Body

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligationLoose)

variable {F : FTy → Type} [FloatOps F]

local notation "𝕄" => MT nD τ sig Unit (Elt F) ℕ (UR sig nD τ) ℕ

/-! ## The kernel body on staging buffers stated by what they hold -/

/-- The scratch buffer held whole, as the body takes it. -/
theorem pt_scratch (c : Dev nD) (f : Buf (Elt F) ((c : Thread nD τ).loc cc0_scratch0)) :
    (iprop(((c : Thread nD τ).loc cc0_scratch0) ↦{fullShare} f) : sProp 𝕄) = pt c (Memref.whole cc0_scratch0) f := by
  unfold pt; rw [(Memref.isWhole_whole _).set_eq_univ]

/-- The body from the inputs' buffers holding `X1`, `X2`, `X3`: they stay, and the result's buffer ends at a value of
    which `P` holds, where `P` is any property of what the run leaves there. -/
theorem sound_kernel (c : Dev nD) (E : Set ℕ) (i : grid0.Coords)
    (M1 : Memref sig .tc .vmem S256x6528 .bf16) (h1 : M1.IsWhole) (M2 : Memref sig .tc .vmem S3264x512 .i8) (h2 : M2.IsWhole)
    (M3 : Memref sig .tc .vmem S204x512 .i8) (h3 : M3.IsWhole) (M4 : Memref sig .tc .vmem S256x512 .bf16) (h4 : M4.IsWhole)
    (X1 : S256x6528.Idx → Elt F .bf16) (X2 : S3264x512.Idx → Elt F .i8) (X3 : S204x512.Idx → Elt F .i8)
    (P : (S256x512.Idx → Elt F .bf16) → Prop)
    (hP : ∀ (f1 : Bf (F := F) c M1) (f2 : Bf (F := F) c M2) (f3 : Bf (F := F) c M3),
      M1.view.read (Elt F) f1 = X1 → M2.view.read (Elt F) f2 = X2 → M3.view.read (Elt F) f3 = X3 →
      P (M4.view.read (Elt F) (kernelRun c i M1 h1 M2 h2 M3 h3 M4 h4 (Memref.whole cc0_scratch0) (Memref.isWhole_whole _) f1 f2 f3).1))
    (X4 : S256x512.Idx → Elt F .bf16) (K : PUnit → sProp 𝕄) :
    iprop(owns (c : Thread nD τ) M1 fullShare X1 ∗ owns (c : Thread nD τ) M2 fullShare X2
        ∗ owns (c : Thread nD τ) M3 fullShare X3 ∗ owns (c : Thread nD τ) M4 fullShare X4
        ∗ (∃ f : Buf (Elt F) ((c : Thread nD τ).loc cc0_scratch0), ((c : Thread nD τ).loc cc0_scratch0) ↦{fullShare} f)
        ∗ (iprop(owns (c : Thread nD τ) M1 fullShare X1 ∗ owns (c : Thread nD τ) M2 fullShare X2
            ∗ owns (c : Thread nD τ) M3 fullShare X3 ∗ (∃ Y, ⌜P Y⌝ ∗ owns (c : Thread nD τ) M4 fullShare Y)
            ∗ (∃ f : Buf (Elt F) ((c : Thread nD τ).loc cc0_scratch0), ((c : Thread nD τ).loc cc0_scratch0) ↦{fullShare} f)) -∗ K ⟨⟩))
      ⊢ wp frame (wpE (defs₀ (F := F)) Variants.none c none) E
          (cc0__body i M1 h1 M2 h2 M3 h3 M4 h4 (Memref.whole cc0_scratch0) (Memref.isWhole_whole _)) K := by
  unfold owns
  simp only [pt_scratch]
  iintro ⟨⟨%f1, %e1, H1⟩, ⟨%f2, %e2, H2⟩, ⟨%f3, %e3, H3⟩, ⟨%f4, %e4, H4⟩, ⟨%f5, H5⟩, Hk⟩
  iapply ((kernelRun c i M1 h1 M2 h2 M3 h3 M4 h4 (Memref.whole cc0_scratch0) (Memref.isWhole_whole _) f1 f2 f3).2 f4 f5 E K)
  isplitl [H1]; · iexact H1
  isplitl [H2]; · iexact H2
  isplitl [H3]; · iexact H3
  isplitl [H4]; · iexact H4
  isplitl [H5]; · iexact H5
  iintro ⟨H1, H2, H3, H4, ⟨%f, H5⟩⟩
  iapply Hk
  isplitl [H1]
  · iexists f1; isplitr; · ipureintro; exact e1
    iexact H1
  isplitl [H2]
  · iexists f2; isplitr; · ipureintro; exact e2
    iexact H2
  isplitl [H3]
  · iexists f3; isplitr; · ipureintro; exact e3
    iexact H3
  isplitl [H4]
  · iexists _; isplitr; · ipureintro; exact hP f1 f2 f3 e1 e2 e3
    iexists _; isplitr; · ipureintro; rfl
    iexact H4
  iexists f; iexact H5

variable (m : (ℓ : Loc nD τ sig) → Buf (Elt F) ℓ) (ρ : Dev nD → PrngReg)

/-! ## The proof data -/

/-- Windows 1 and 2 at point `t`: the block on the columns inside the array, zero words past them. -/
def blk1 (c : Dev nD) (t : Fin cfg0.N) : S3264x512.Idx → Elt F .i8 :=
  win0_1.fill (grid0.coords t) (fun _ => 0#8) (iblk m c 1 t)
def blk2 (c : Dev nD) (t : Fin cfg0.N) : S204x512.Idx → Elt F .i8 :=
  win0_2.fill (grid0.coords t) (fun _ => 0#8) (iblk m c 2 t)

/-- The proof data, over what the result's buffer is said to hold after the body (`out`). -/
def dats (out : Dev nD → Fin cfg0.N → S256x512.Idx → Elt F .bf16) (_ : Fin 1) (c : Dev nD) :
    Dat τ (Elt F) Unit ℕ (UR sig nD τ) ℕ cfg0 c where
  A w := V m c (Pipeline.arrRef spec0 w)
  after w t := match w with
    | ⟨0, _⟩ => iblk m c 0 t
    | ⟨1, _⟩ => blk1 m c t
    | ⟨2, _⟩ => blk2 m c t
    | ⟨3, _⟩ => out c t
  Φ _ := Pipeline.ΦA spec0 c
  q _ := fullShare
  owed _ := 0

variable (out : Dev nD → Fin cfg0.N → S256x512.Idx → Elt F .bf16)

theorem before_0 (c : Dev nD) (t : Fin cfg0.N) (d) : (dats m out 0 c).before (0 : Fin 4) t d = iblk m c 0 t :=
  before0_0_of m (dats m out 0 c) rfl (fun _ => rfl) t d
theorem before_1 (c : Dev nD) (t : Fin cfg0.N) (d) :
    (dats m out 0 c).before (1 : Fin 4) t d = win0_1.fill (grid0.coords t) d (iblk m c 1 t) := by
  unfold Dat.before; rw [if_pos (fetch0_1 t)]; rfl
theorem before_2 (c : Dev nD) (t : Fin cfg0.N) (d) :
    (dats m out 0 c).before (2 : Fin 4) t d = win0_2.fill (grid0.coords t) d (iblk m c 2 t) := by
  unfold Dat.before; rw [if_pos (fetch0_2 t)]; rfl

theorem defs₀_row (t : Fin cfg0.N) : defs₀ (F := F) .tc cfg0.body (cfg0.bodyArgs t (cfg0.slots t)) = bodyAt0 t := by
  unfold defs₀; rw [Defs.onTc_tc]

theorem after_eq1 (c : Dev nD) (t : Fin cfg0.N) : (dats m out 0 c).after (1 : Fin 4) t = blk1 m c t := by unfold dats; rfl
theorem after_eq2 (c : Dev nD) (t : Fin cfg0.N) : (dats m out 0 c).after (2 : Fin 4) t = blk2 m c t := by unfold dats; rfl
theorem after_eq3 (c : Dev nD) (t : Fin cfg0.N) : (dats m out 0 c).after (3 : Fin 4) t = out c t := by unfold dats; rfl

/-- An input's clipped block filled out again is the fill of the block. -/
theorem after_1 (c : Dev nD) (t : Fin cfg0.N) (d) :
    (win0 1).fill (grid0.coords t) d ((win0 1).cut (grid0.coords t) ((dats m out 0 c).after (1 : Fin 4) t))
      = win0_1.fill (grid0.coords t) d (iblk m c 1 t) := by
  rw [after_eq1]; unfold blk1
  exact congrArg (win0_1.fill (grid0.coords t) d) (win0_1.cut_fill (grid0.coords t) (fun _ => 0#8) (iblk m c 1 t))
theorem after_2 (c : Dev nD) (t : Fin cfg0.N) (d) :
    (win0 2).fill (grid0.coords t) d ((win0 2).cut (grid0.coords t) ((dats m out 0 c).after (2 : Fin 4) t))
      = win0_2.fill (grid0.coords t) d (iblk m c 2 t) := by
  rw [after_eq2]; unfold blk2
  exact congrArg (win0_2.fill (grid0.coords t) d) (win0_2.cut_fill (grid0.coords t) (fun _ => 0#8) (iblk m c 2 t))

/-- The result's window forgotten. -/
def fgt3 : Fin cfg0.W → Bool := fun | 3 => true | _ => false

/-- The body at point `t` on the staging buffers there: each input's buffer stays, the result's ends at a value of
    which `P` holds. -/
theorem sound_at (c : Dev nD) (t : Fin cfg0.N) (d1 : S3264x512.Idx → Elt F .i8) (d2 : S204x512.Idx → Elt F .i8)
    (X4 : S256x512.Idx → Elt F .bf16) (P : (S256x512.Idx → Elt F .bf16) → Prop)
    (hP : ∀ (f1 : Bf (F := F) c (st0_0 t)) (f2 : Bf (F := F) c (st0_1 t)) (f3 : Bf (F := F) c (st0_2 t)),
      (st0_0 t).view.read (Elt F) f1 = iblk m c 0 t →
      (st0_1 t).view.read (Elt F) f2 = win0_1.fill (grid0.coords t) d1 (iblk m c 1 t) →
      (st0_2 t).view.read (Elt F) f3 = win0_2.fill (grid0.coords t) d2 (iblk m c 2 t) →
      P ((st0_3 t).view.read (Elt F) (kernelRun c (grid0.coords t) (st0_0 t) (hstage0_0 ((cfg0.slots t 0).cast nbuf0_0))
        (st0_1 t) (hstage0_1 ((cfg0.slots t 1).cast nbuf0_1)) (st0_2 t) (hstage0_2 ((cfg0.slots t 2).cast nbuf0_2))
        (st0_3 t) (hstage0_3 ((cfg0.slots t 3).cast nbuf0_3)) (Memref.whole cc0_scratch0) (Memref.isWhole_whole _) f1 f2 f3).1))
    (Q : PUnit → sProp 𝕄) :
    iprop(Pipeline.ΦA spec0 c
        ∗ owns (c : Thread nD τ) (st0_0 t) fullShare (iblk m c 0 t)
        ∗ owns (c : Thread nD τ) (st0_1 t) fullShare (win0_1.fill (grid0.coords t) d1 (iblk m c 1 t))
        ∗ owns (c : Thread nD τ) (st0_2 t) fullShare (win0_2.fill (grid0.coords t) d2 (iblk m c 2 t))
        ∗ owns (c : Thread nD τ) (st0_3 t) fullShare X4
        ∗ (iprop(Pipeline.ΦA spec0 c
            ∗ owns (c : Thread nD τ) (st0_0 t) fullShare (iblk m c 0 t)
            ∗ owns (c : Thread nD τ) (st0_1 t) fullShare (win0_1.fill (grid0.coords t) d1 (iblk m c 1 t))
            ∗ owns (c : Thread nD τ) (st0_2 t) fullShare (win0_2.fill (grid0.coords t) d2 (iblk m c 2 t))
            ∗ (∃ Y, ⌜P Y⌝ ∗ owns (c : Thread nD τ) (st0_3 t) fullShare Y)) -∗ Q ⟨⟩))
      ⊢ wp frame (wpE (defs₀ (F := F)) Variants.none c none) Set.univ (bodyAt0 t) Q := by
  unfold Pipeline.ΦA
  rw [scopedRest0_eq]
  iintro ⟨⟨Hs, Hp⟩, H0, H1, H2, H3, Hk⟩
  iapply (sound_kernel c Set.univ (grid0.coords t) _ _ _ _ _ _ _ _ _ _ _ P hP X4 _)
  isplitl [H0]; · iexact H0
  isplitl [H1]; · iexact H1
  isplitl [H2]; · iexact H2
  isplitl [H3]; · iexact H3
  isplitl [Hs]; · iexact Hs
  iintro ⟨H0, H1, H2, H3, Hs⟩
  iapply Hk
  isplitl [Hs Hp]
  · isplitl [Hs]; · iexact Hs
    iexact Hp
  isplitl [H0]; · iexact H0
  isplitl [H1]; · iexact H1
  isplitl [H2]; · iexact H2
  iexact H3

/-- The body obligation with nothing said of the result. -/
theorem body_forget (c : Dev nD) :
    BodyObligationLoose (dats m out 0 c) (defs₀ (F := F)) Variants.none () Set.univ fgt3 := fun t => by
  rw [bigSep_W0, bigSep_W0, defs₀_row]
  simp only [fgt3]
  rw [show (dats m out 0 c).Φ t.succ = Pipeline.ΦA spec0 c from rfl,
    show (dats m out 0 c).Φ t.castSucc = Pipeline.ΦA spec0 c from rfl,
    show (dats m out 0 c).owesAt () t.succ = (dats m out 0 c).owesAt () t.castSucc from rfl]
  iintro ⟨HΦ, Ho, ⟨%d0, H0⟩, ⟨%d1, H1⟩, ⟨%d2, H2⟩, ⟨%X, H3⟩⟩
  rw [before_0 m out c t d0, before_1 m out c t d1, before_2 m out c t d2]
  iapply (sound_at m c t d1 d2 X (fun _ => True) (fun _ _ _ _ _ _ => trivial) _)
  isplitl [HΦ]; · iexact HΦ
  isplitl [H0]; · iexact H0
  isplitl [H1]; · iexact H1
  isplitl [H2]; · iexact H2
  isplitl [H3]; · iexact H3
  iintro ⟨HΦ, H0, H1, H2, ⟨%Y, %hY, H3⟩⟩
  isplitl [HΦ]; · iexact HΦ
  isplitl [Ho]; · iexact Ho
  isplitl [H0]; · iexact H0
  isplitl [H1]
  · iexists d1
    rw [after_1]
    iexact H1
  isplitl [H2]
  · iexists d2
    rw [after_2]
    iexact H2
  iexists Y
  iexact H3

/-- The body obligation with the result's buffer, on the columns inside the array, at `out`: it holds once the value
    left there is `out` on those columns whatever the inputs' buffers hold past the array's end. -/
theorem body_value (c : Dev nD)
    (hout : ∀ (t : Fin cfg0.N) (d1 : S3264x512.Idx → Elt F .i8) (d2 : S204x512.Idx → Elt F .i8)
      (f1 : Bf (F := F) c (st0_0 t)) (f2 : Bf (F := F) c (st0_1 t)) (f3 : Bf (F := F) c (st0_2 t)),
      (st0_0 t).view.read (Elt F) f1 = iblk m c 0 t →
      (st0_1 t).view.read (Elt F) f2 = win0_1.fill (grid0.coords t) d1 (iblk m c 1 t) →
      (st0_2 t).view.read (Elt F) f3 = win0_2.fill (grid0.coords t) d2 (iblk m c 2 t) →
      win0_3.cut (grid0.coords t) ((st0_3 t).view.read (Elt F) (kernelRun c (grid0.coords t) (st0_0 t) (hstage0_0 ((cfg0.slots t 0).cast nbuf0_0))
        (st0_1 t) (hstage0_1 ((cfg0.slots t 1).cast nbuf0_1)) (st0_2 t) (hstage0_2 ((cfg0.slots t 2).cast nbuf0_2))
        (st0_3 t) (hstage0_3 ((cfg0.slots t 3).cast nbuf0_3)) (Memref.whole cc0_scratch0) (Memref.isWhole_whole _) f1 f2 f3).1)
      = win0_3.cut (grid0.coords t) (out c t)) :
    BodyObligationLoose (dats m out 0 c) (defs₀ (F := F)) Variants.none () Set.univ := fun t => by
  rw [bigSep_W0, bigSep_W0, defs₀_row]
  simp only []
  rw [show (dats m out 0 c).Φ t.succ = Pipeline.ΦA spec0 c from rfl,
    show (dats m out 0 c).Φ t.castSucc = Pipeline.ΦA spec0 c from rfl,
    show (dats m out 0 c).owesAt () t.succ = (dats m out 0 c).owesAt () t.castSucc from rfl]
  iintro ⟨HΦ, Ho, ⟨%d0, H0⟩, ⟨%d1, H1⟩, ⟨%d2, H2⟩, ⟨%d3, H3⟩⟩
  rw [before_0 m out c t d0, before_1 m out c t d1, before_2 m out c t d2]
  iapply (sound_at m c t d1 d2 ((dats m out 0 c).before (3 : Fin 4) t d3)
    (fun Y => win0_3.cut (grid0.coords t) Y = win0_3.cut (grid0.coords t) (out c t)) (fun f1 f2 f3 e1 e2 e3 => hout t d1 d2 f1 f2 f3 e1 e2 e3) _)
  isplitl [HΦ]; · iexact HΦ
  isplitl [H0]; · iexact H0
  isplitl [H1]; · iexact H1
  isplitl [H2]; · iexact H2
  isplitl [H3]; · iexact H3
  iintro ⟨HΦ, H0, H1, H2, ⟨%Y, %hY, H3⟩⟩
  isplitl [HΦ]; · iexact HΦ
  isplitl [Ho]; · iexact Ho
  isplitl [H0]; · iexact H0
  isplitl [H1]
  · iexists d1
    rw [after_1]
    iexact H1
  isplitl [H2]
  · iexists d2
    rw [after_2]
    iexact H2
  iexists Y
  rw [after_eq3, show (win0 3).fill (grid0.coords t) Y ((win0 3).cut (grid0.coords t) (out c t)) = Y from
    (congrArg (win0_3.fill (grid0.coords t) Y) hY.symm).trans (win0_3.fill_cut (grid0.coords t) Y)]
  iexact H3

/-! ## The frame -/

set_option backward.isDefEq.respectTransparency.types false in
/-- The program runs from any memory whose counters are zero; its arguments end unchanged and every counter at zero. -/
theorem quiescent : θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  Pipeline.θ_run_frame_around_T_forget cfgs (dats m (fun _ _ _ => FloatOps.ofBits .bf16 0#16)) 0 launch0 defs₀ Variants.none fgt3
    ({main_v4} : Finset (Ref sig .tc)) m ρ main
    (fun c => body_forget m _ c) (fun c => (dats m _ 0 c).share_full fun _ => rfl) (fun _ _ => rfl) (V0 m) [hostOps1]
    sfx_sub sfx_fresh sfx_keeps
    (by
      intro ops hops op hop b hb
      simp only [List.mem_cons, List.mem_nil_iff, or_false] at hops
      subst hops
      simp only [hostOps1, List.mem_cons, List.mem_nil_iff, or_false] at hop
      subst hop
      simp only [StableHlo.reshape_writes, Finset.mem_singleton] at hb
      by_contra hn
      exact StableHlo.devRef_ne_of_ne (fun e => hn (by rw [e]; exact Finset.mem_singleton_self _)) hb)
    (hmain m Variants.none) (fun _ w => rfl) (fun _ _ => rfl) _
    (fun r h => ⟨fun c => ⟨
      ((h.1 c).2 main_arg0 (Finset.mem_sdiff.mpr ⟨Pipeline.mem_restRefs_of main_arg0 (by decide) (by decide), by decide⟩)).trans (V_main_arg0 m c),
      ((h.1 c).2 main_arg1 (Finset.mem_sdiff.mpr ⟨Pipeline.mem_restRefs_of main_arg1 (by decide) (by decide), by decide⟩)).trans (V_main_arg1 m c),
      ((h.1 c).2 main_arg2 (Finset.mem_sdiff.mpr ⟨Pipeline.mem_restRefs_of main_arg2 (by decide) (by decide), by decide⟩)).trans (V_main_arg2 m c)⟩, h.2⟩)

end Cert.KernelIdeal.Body

end
-- ==== Proof.KernelIdealStep.lean ====
module

public import proofs.«01_k».proof.Proof.KernelIdealBody
public import Idealize.ShloMosaic.Lib.Pipeline.Value

@[expose] public section

set_option maxRecDepth 16384

noncomputable section

namespace Cert.KernelIdeal.Body

open Cert.KernelIdeal Cert.KernelIdeal.Gen

open Idealize.ShloMosaic Idealize.ShloMosaic.TcCoe

variable {F : FTy → Type} [FloatOps F]

/-! ## The body's result as a recursion over the chunks

The body adds 26 products, one a chunk of the contraction: chunk `k < 25` is columns `256 k … 256 k + 255` of `x`, rows
`128 k … 128 k + 127` of the codes and the eight scale rows from `8 k`; the last is 128 columns, 64 rows and four. -/

section
variable (X : S256x6528.Idx → Elt F .bf16) (C : S3264x512.Idx → Elt F .i8) (W : S204x512.Idx → Elt F .i32)

theorem inbX {k : ℕ} (h : k < 25) : ∀ a, (![0, 256 * k] : Fin 2 → ℕ) a + S256x256.size a ≤ S256x6528.size a := by
  intro a; fin_cases a
  · show 0 + 256 ≤ 256; omega
  · show 256 * k + 256 ≤ 6528; omega
theorem inbC {k : ℕ} (h : k < 25) : ∀ a, (![128 * k, 0] : Fin 2 → ℕ) a + S128x512.size a ≤ S3264x512.size a := by
  intro a; fin_cases a
  · show 128 * k + 128 ≤ 3264; omega
  · show 0 + 512 ≤ 512; omega
theorem inbW {i : ℕ} (h : i < 204) : ∀ a, (![i, 0] : Fin 2 → ℕ) a + S1x512.size a ≤ S204x512.size a := by
  intro a; fin_cases a
  · show i + 1 ≤ 204; omega
  · show 0 + 512 ≤ 512; omega

/-- Chunk `k` of `x`, of the codes, and scale row `i`. -/
def ldX (k : ℕ) (h : k < 25) : Vec F S256x256 .bf16 := fun j => X ((Rect.unit (s := S256x6528) ![0, 256 * k] S256x256.size (inbX h)).toLoadRect.idx j)
def ldC (k : ℕ) (h : k < 25) : Vec F S128x512 .i8 := fun j => C ((Rect.unit (s := S3264x512) ![128 * k, 0] S128x512.size (inbC h)).toLoadRect.idx j)
def ldW (i : ℕ) (h : i < 204) : Vec F S1x512 .i32 := fun j => W ((Rect.unit (s := S204x512) ![i, 0] S1x512.size (inbW h)).toLoadRect.idx j)
/-- The last chunk of `x` and of the codes. -/
def ldX' : Vec F S256x128 .bf16 := fun j => X ((Rect.unit (s := S256x6528) ![0, 6400] S256x128.size inb_S256x6528_S256x128_0_6400).toLoadRect.idx j)
def ldC' : Vec F S64x512 .i8 := fun j => C ((Rect.unit (s := S3264x512) ![3200, 0] S64x512.size inb_S3264x512_S64x512_3200_0).toLoadRect.idx j)

/-- The decoded codes of a chunk. -/
def vals (v : Vec F S128x512 .i8) : FVec F S256x512 .bf16 := k0_pay6 (k0_pay4 v) (k0_pay5 v) 8#32

/-- One chunk: the decoded codes scaled 32 rows at a time, times the chunk of `x`, added to the sum so far. -/
def step (acc : FVec F S256x512 .f32) (v : Vec F S128x512 .i8) (row : Fin 8 → Vec F S1x512 .i32) (x : Vec F S256x256 .bf16) :
    FVec F S256x512 .f32 :=
  k0_pay14 acc (vals v) (k0_pay7 (k0_pay4 v) (k0_pay5 v) 8#32 (row 0)) (k0_pay8 (k0_pay4 v) (k0_pay5 v) 8#32 (row 1))
    (k0_pay9 (k0_pay4 v) (k0_pay5 v) 8#32 (row 2)) (k0_pay10 (k0_pay4 v) (k0_pay5 v) 8#32 (row 3))
    (k0_pay11 (k0_pay4 v) (k0_pay5 v) 8#32 (row 4)) (k0_pay12 (k0_pay4 v) (k0_pay5 v) 8#32 (row 5))
    (k0_pay13 (row 6)) (row 7) x

/-- The sum after `n` chunks. -/
def accAt : (n : ℕ) → n ≤ 25 → FVec F S256x512 .f32
  | 0, _ => k0_pay3
  | n + 1, h => step (accAt n (Nat.le_of_succ_le h)) (ldC C n h)
      (fun r => ldW W (8 * n + r.val) (by have := r.isLt; omega)) (ldX X n h)

/-- The body's result over `x`, the codes and the scale words. -/
def bodyOut : FVec F S256x512 .bf16 :=
  k0_pay1 (accAt X C W 25 (Nat.le_refl _)) (k0_pay223 (ldC' C)) (k0_pay224 (k0_pay223 (ldC' C)) (ldW W 200 (by omega)))
    (ldW W 201 (by omega)) (ldW W 202 (by omega)) (ldW W 203 (by omega)) (ldX' X)

end

/-- What the run leaves in the result's buffer is `bodyOut`, the scale words read off the scratch buffer. -/
theorem run_pieces (c : Dev nD) (M1 : Memref sig .tc .vmem S256x6528 .bf16) (M2 : Memref sig .tc .vmem S3264x512 .i8)
    (M3 : Memref sig .tc .vmem S204x512 .i8) (M5 : Memref sig .tc .vmem S204x512 .i32)
    (f1 : Bf (F := F) c M1) (f2 : Bf (F := F) c M2) (f3 : Bf (F := F) c M3) :
    kernelRun.sl.H4_1 c M1 M2 M3 M5 f1 f2 f3
      = [⟨Rect.unit ![0, 0] S256x512.size inb_S256x512_S256x512_0_0,
          bodyOut (M1.view.read (Elt F) f1) (M2.view.read (Elt F) f2)
            (M5.view.read (Elt F) (M5.view.writes (Elt F) M5.view.junk (kernelRun.sl.H5_1 c M3 f3)))⟩] := by
  rfl

end Cert.KernelIdeal.Body

end
-- ==== Proof.KernelIdealChunk.lean ====
module

public import proofs.«01_k».proof.Proof.KernelIdealStep
public import Idealize.ShloMosaic.Lib.MatmulPlain
public import Idealize.ShloMosaic.Lib.BitcastPair
public import Idealize.ShloMosaic.Lib.Pipeline.ValueKit

@[expose] public section

set_option maxRecDepth 16384

noncomputable section

namespace Cert.KernelIdeal.Body

open Cert.KernelIdeal Cert.KernelIdeal.Gen

open Idealize.ShloMosaic Idealize.ShloMosaic.TcCoe

open scoped BigOperators

/-! ## One weight -/

/-- The four-bit code of row parity `p` in a byte: the low four bits for an even row, the high four for an odd one. -/
def nib (b : BitVec 8) (p : ℕ) : BitVec 32 :=
  if p < 1 then IntOp.andi (b.setWidth 32) 15#32 else IntOp.shrsi ArithUnit.vector (b.setWidth 32) 4#32

/-- Twice the magnitude of a four-bit code: its low three bits below four, from four on in steps of two, from six on in
steps of four. -/
def mag2 (n : BitVec 32) : BitVec 32 :=
  Scalar.select (IntOp.cmpi .slt (IntOp.andi n 7#32) 4#32) (IntOp.andi n 7#32)
    (Scalar.select (IntOp.cmpi .slt (IntOp.andi n 7#32) 6#32) (IntOp.subi (IntOp.muli 2#32 (IntOp.andi n 7#32)) 4#32)
      (IntOp.subi (IntOp.muli 4#32 (IntOp.andi n 7#32)) 16#32))

/-- The magnitude: half of it. -/
def mag (n : BitVec 32) : EReal := FloatOps.sitofp (F := Ideal) .f32 (mag2 n) * Ideal.ofBits .f32 0x3F000000#32

/-- The decoded number: negative from eight on. -/
def dec (n : BitVec 32) : EReal := Scalar.select (IntOp.cmpi .sge n 8#32) (0 - mag n) (mag n)

/-- The scale a word of two sixteen-bit halves holds for row parity `p`. -/
def half (w : BitVec 32) (p : ℕ) : EReal := Ideal.ofBits .bf16 (w.extractLsb' (16 * p) 16)

/-- The weight of a byte, a row parity and a scale word. -/
def wt (b : BitVec 8) (p : ℕ) (w : BitVec 32) : EReal := dec (nib b p) * half w p

theorem pay4_apply (v : Vec Ideal S128x512 .i8) (kk : Fin 256) (b : Fin 512) :
    k0_pay4 (F := Ideal) v (ix2 kk b) = nib (v (ix2 ⟨kk.val / 2, by omega⟩ b)) (kk.val % 2) := by
  pointwise [k0_pay4]
  unfold nib
  split <;> rfl

theorem vals_apply (v : Vec Ideal S128x512 .i8) (j : S256x512.Idx) :
    vals (F := Ideal) v j = dec (k0_pay4 v j) := by
  unfold vals
  pointwise [k0_pay6, k0_pay5]
  rfl

theorem pay223_apply (v : Vec Ideal S64x512 .i8) (kk : Fin 128) (b : Fin 512) :
    k0_pay223 (F := Ideal) v (ix2 kk b) = dec (nib (v (ix2 ⟨kk.val / 2, by omega⟩ b)) (kk.val % 2)) := by
  pointwise [k0_pay223]
  unfold nib
  by_cases h : kk.val % 2 < 1
  · simp only [h, dif_pos, if_pos]; rfl
  · simp only [h, dif_neg, if_neg, not_false_eq_true]; rfl

theorem row_apply (row : Vec Ideal S1x512 .i32) (r : Fin 32) (b : Fin 512) :
    bitcastToFloat (F := Ideal) .bf16 (bitcast S32x512 16 (broadcastTo S16x512 (shapeCast S1x512 row shapeCasts_S1x512_S1x512)
      broadcasts_S1x512_S16x512) bitcasts_S16x512_w32_S32x512_w16) (ix2 r b) = half (row (ix2 0 b)) (r.val % 2) := by
  show Ideal.ofBits .bf16 _ = _
  rw [bitcast_32_16]
  pointwise
  rfl

/-- Eight parts of 32 rows laid one under another, read at an index. -/
theorem concat8_apply (f : Fin 8 → FVec Ideal S32x512 .bf16) (kk : Fin 256) (b : Fin 512) :
    concatenate S256x512 0 [⟨S32x512, f 0⟩, ⟨S32x512, f 1⟩, ⟨S32x512, f 2⟩, ⟨S32x512, f 3⟩, ⟨S32x512, f 4⟩, ⟨S32x512, f 5⟩,
      ⟨S32x512, f 6⟩, ⟨S32x512, f 7⟩] concatenates_S32x512_S32x512_S32x512_S32x512_S32x512_S32x512_S32x512_S32x512_S256x512_d0
      (ix2 kk b) = f ⟨kk.val / 32, by omega⟩ (ix2 ⟨kk.val % 32, by omega⟩ b) := by
  refine concatenate_ofFn_apply (t := S256x512) (s₁ := S32x512) 0 f _ rfl 32 rfl (ix2 kk b) ⟨kk.val / 32, by omega⟩ rfl
    (ix2 ⟨kk.val % 32, by omega⟩ b) rfl ?_
  intro c hc
  match c with
  | ⟨0, _⟩ => exact absurd rfl hc
  | ⟨1, _⟩ => rfl

/-- Four parts of 32 rows. -/
theorem concat4_apply (f : Fin 4 → FVec Ideal S32x512 .bf16) (kk : Fin 128) (b : Fin 512) :
    concatenate S128x512 0 [⟨S32x512, f 0⟩, ⟨S32x512, f 1⟩, ⟨S32x512, f 2⟩, ⟨S32x512, f 3⟩]
      concatenates_S32x512_S32x512_S32x512_S32x512_S128x512_d0
      (ix2 kk b) = f ⟨kk.val / 32, by omega⟩ (ix2 ⟨kk.val % 32, by omega⟩ b) := by
  refine concatenate_ofFn_apply (t := S128x512) (s₁ := S32x512) 0 f _ rfl 32 rfl (ix2 kk b) ⟨kk.val / 32, by omega⟩ rfl
    (ix2 ⟨kk.val % 32, by omega⟩ b) rfl ?_
  intro c hc
  match c with
  | ⟨0, _⟩ => exact absurd rfl hc
  | ⟨1, _⟩ => rfl

/-- A part at an index: the decoded code of its row times the scale the row's word holds. -/
theorem mul_row_apply {s : Shape} (off : Fin s.rank → ℕ) (v : FVec Ideal s .bf16) (h : s.Slices off S32x512)
    (row : Vec Ideal S1x512 .i32) (r : Fin 32) (b : Fin 512) (i : s.Idx)
    (hi : extractStridedSlice S32x512 off v h (ix2 r b) = v i) :
    mulf (extractStridedSlice S32x512 off v h) (bitcastToFloat (F := Ideal) .bf16 (bitcast S32x512 16
      (broadcastTo S16x512 (shapeCast S1x512 row shapeCasts_S1x512_S1x512)
      broadcasts_S1x512_S16x512) bitcasts_S16x512_w32_S32x512_w16)) (ix2 r b) = v i * half (row (ix2 0 b)) (r.val % 2) := by
  rw [← row_apply, ← hi]; rfl

/-- The eight parts of a chunk. -/
def parts (v : Vec Ideal S128x512 .i8) (row : Fin 8 → Vec Ideal S1x512 .i32) : Fin 8 → FVec Ideal S32x512 .bf16 :=
  ![k0_pay7 (k0_pay4 v) (k0_pay5 v) 8#32 (row 0), k0_pay8 (k0_pay4 v) (k0_pay5 v) 8#32 (row 1),
    k0_pay9 (k0_pay4 v) (k0_pay5 v) 8#32 (row 2), k0_pay10 (k0_pay4 v) (k0_pay5 v) 8#32 (row 3),
    k0_pay11 (k0_pay4 v) (k0_pay5 v) 8#32 (row 4), k0_pay12 (k0_pay4 v) (k0_pay5 v) 8#32 (row 5),
    mulf (extractStridedSlice S32x512 ![192, 0] (vals v) slices_S256x512_o192_0_S32x512)
      (bitcastToFloat .bf16 (bitcast S32x512 16 (k0_pay13 (row 6)) bitcasts_S16x512_w32_S32x512_w16)),
    mulf (extractStridedSlice S32x512 ![224, 0] (vals v) slices_S256x512_o224_0_S32x512)
      (bitcastToFloat .bf16 (bitcast S32x512 16 (broadcastTo S16x512 (shapeCast S1x512 (row 7) shapeCasts_S1x512_S1x512)
        broadcasts_S1x512_S16x512) bitcasts_S16x512_w32_S32x512_w16))]

theorem parts_apply (v : Vec Ideal S128x512 .i8) (row : Fin 8 → Vec Ideal S1x512 .i32) (n : Fin 8) (r : Fin 32) (b : Fin 512) :
    parts v row n (ix2 r b) = vals v (ix2 ⟨32 * n.val + r.val, by omega⟩ b) * half (row n (ix2 0 b)) (r.val % 2) := by
  match n with
  | 0 => exact mul_row_apply (s := S256x512) ![0, 0] (vals v) slices_S256x512_o0_0_S32x512 (row 0) r b (ix2 ⟨0 + r.val, by omega⟩ b) (by pointwise)
  | 1 => exact mul_row_apply (s := S256x512) ![32, 0] (vals v) slices_S256x512_o32_0_S32x512 (row 1) r b (ix2 ⟨32 + r.val, by omega⟩ b) (by pointwise)
  | 2 => exact mul_row_apply (s := S256x512) ![64, 0] (vals v) slices_S256x512_o64_0_S32x512 (row 2) r b (ix2 ⟨64 + r.val, by omega⟩ b) (by pointwise)
  | 3 => exact mul_row_apply (s := S256x512) ![96, 0] (vals v) slices_S256x512_o96_0_S32x512 (row 3) r b (ix2 ⟨96 + r.val, by omega⟩ b) (by pointwise)
  | 4 => exact mul_row_apply (s := S256x512) ![128, 0] (vals v) slices_S256x512_o128_0_S32x512 (row 4) r b (ix2 ⟨128 + r.val, by omega⟩ b) (by pointwise)
  | 5 => exact mul_row_apply (s := S256x512) ![160, 0] (vals v) slices_S256x512_o160_0_S32x512 (row 5) r b (ix2 ⟨160 + r.val, by omega⟩ b) (by pointwise)
  | 6 => exact mul_row_apply (s := S256x512) ![192, 0] (vals v) slices_S256x512_o192_0_S32x512 (row 6) r b (ix2 ⟨192 + r.val, by omega⟩ b) (by pointwise)
  | 7 => exact mul_row_apply (s := S256x512) ![224, 0] (vals v) slices_S256x512_o224_0_S32x512 (row 7) r b (ix2 ⟨224 + r.val, by omega⟩ b) (by pointwise)

/-- **A chunk at an index**: the sum so far plus the row of `x` times the column of weights. -/
theorem step_apply (acc : FVec Ideal S256x512 .f32) (v : Vec Ideal S128x512 .i8) (row : Fin 8 → Vec Ideal S1x512 .i32)
    (x : Vec Ideal S256x256 .bf16) (a : Fin 256) (b : Fin 512) :
    step (F := Ideal) acc v row x (ix2 a b) = acc (ix2 a b) + ∑ kk : Fin 256, x (ix2 a kk) *
      wt (v (ix2 ⟨kk.val / 2, by omega⟩ b)) (kk.val % 2) (row ⟨kk.val / 32, by omega⟩ (ix2 0 b)) := by
  have hm := fun (l : FVec Ideal S256x256 .bf16) (w : FVec Ideal S256x512 .bf16) (c : FVec Ideal S256x512 .f32) =>
    Ideal.matmul_plain_apply (φ₁ := .bf16) (φ₂ := .bf16) none l w c a b
  show acc (ix2 a b) + FloatOps.matmul (DotDims.plain 256 256 512) none
    (shapeCast S256x256 x shapeCasts_S256x256_S256x256)
    (concatenate S256x512 0 [⟨S32x512, parts v row 0⟩, ⟨S32x512, parts v row 1⟩, ⟨S32x512, parts v row 2⟩,
      ⟨S32x512, parts v row 3⟩, ⟨S32x512, parts v row 4⟩, ⟨S32x512, parts v row 5⟩,
      ⟨S32x512, parts v row 6⟩, ⟨S32x512, parts v row 7⟩]
      concatenates_S32x512_S32x512_S32x512_S32x512_S32x512_S32x512_S32x512_S32x512_S256x512_d0)
      (constant S256x512 .f32 0x00000000#32) (ValueIdx.ix2 a b) = _
  rw [hm]
  have hz : constant (F := Ideal) S256x512 .f32 0x00000000#32 (ValueIdx.ix2 a b) = 0 := by pointwise
  rw [hz, zero_add]
  have hx : ∀ kk : Fin 256, shapeCast S256x256 x shapeCasts_S256x256_S256x256 (ix2 a kk) = x (ix2 a kk) := fun kk => by pointwise
  refine congrArg (acc (ix2 a b) + ·) (Finset.sum_congr rfl fun kk _ => ?_)
  refine congrArg₂ (· * ·) (hx kk) ?_
  refine (concat8_apply (parts v row) kk b).trans ?_
  rw [parts_apply, vals_apply]
  have hk : (⟨32 * (kk.val / 32) + kk.val % 32, by omega⟩ : Fin 256) = kk := Fin.ext (by show 32 * (kk.val / 32) + kk.val % 32 = kk.val; omega)
  have hr : kk.val % 32 % 2 = kk.val % 2 := by omega
  show dec (k0_pay4 v (ix2 ⟨32 * (kk.val / 32) + kk.val % 32, _⟩ b)) * half _ (kk.val % 32 % 2) = _
  rw [hk, hr, pay4_apply]; rfl

/-- The four parts of the last chunk. -/
def parts' (v : Vec Ideal S64x512 .i8) (row : Fin 4 → Vec Ideal S1x512 .i32) : Fin 4 → FVec Ideal S32x512 .bf16 :=
  ![k0_pay224 (k0_pay223 v) (row 0),
    mulf (extractStridedSlice S32x512 ![32, 0] (k0_pay223 v) slices_S128x512_o32_0_S32x512)
      (bitcastToFloat .bf16 (bitcast S32x512 16 (broadcastTo S16x512 (shapeCast S1x512 (row 1) shapeCasts_S1x512_S1x512)
        broadcasts_S1x512_S16x512) bitcasts_S16x512_w32_S32x512_w16)),
    mulf (extractStridedSlice S32x512 ![64, 0] (k0_pay223 v) slices_S128x512_o64_0_S32x512)
      (bitcastToFloat .bf16 (bitcast S32x512 16 (broadcastTo S16x512 (shapeCast S1x512 (row 2) shapeCasts_S1x512_S1x512)
        broadcasts_S1x512_S16x512) bitcasts_S16x512_w32_S32x512_w16)),
    mulf (extractStridedSlice S32x512 ![96, 0] (k0_pay223 v) slices_S128x512_o96_0_S32x512)
      (bitcastToFloat .bf16 (bitcast S32x512 16 (broadcastTo S16x512 (shapeCast S1x512 (row 3) shapeCasts_S1x512_S1x512)
        broadcasts_S1x512_S16x512) bitcasts_S16x512_w32_S32x512_w16))]

theorem parts'_apply (v : Vec Ideal S64x512 .i8) (row : Fin 4 → Vec Ideal S1x512 .i32) (n : Fin 4) (r : Fin 32) (b : Fin 512) :
    parts' v row n (ix2 r b) = k0_pay223 v (ix2 ⟨32 * n.val + r.val, by omega⟩ b) * half (row n (ix2 0 b)) (r.val % 2) := by
  match n with
  | 0 => exact mul_row_apply (s := S128x512) ![0, 0] (k0_pay223 v) slices_S128x512_o0_0_S32x512 (row 0) r b (ix2 ⟨0 + r.val, by omega⟩ b) (by pointwise)
  | 1 => exact mul_row_apply (s := S128x512) ![32, 0] (k0_pay223 v) slices_S128x512_o32_0_S32x512 (row 1) r b (ix2 ⟨32 + r.val, by omega⟩ b) (by pointwise)
  | 2 => exact mul_row_apply (s := S128x512) ![64, 0] (k0_pay223 v) slices_S128x512_o64_0_S32x512 (row 2) r b (ix2 ⟨64 + r.val, by omega⟩ b) (by pointwise)
  | 3 => exact mul_row_apply (s := S128x512) ![96, 0] (k0_pay223 v) slices_S128x512_o96_0_S32x512 (row 3) r b (ix2 ⟨96 + r.val, by omega⟩ b) (by pointwise)

/-- **The last chunk at an index.** -/
theorem last_apply (acc : FVec Ideal S256x512 .f32) (v : Vec Ideal S64x512 .i8) (row : Fin 4 → Vec Ideal S1x512 .i32)
    (x : Vec Ideal S256x128 .bf16) (a : Fin 256) (b : Fin 512) :
    k0_pay1 (F := Ideal) acc (k0_pay223 v) (k0_pay224 (k0_pay223 v) (row 0)) (row 1) (row 2) (row 3) x (ix2 a b)
      = acc (ix2 a b) + ∑ kk : Fin 128, x (ix2 a kk) *
        wt (v (ix2 ⟨kk.val / 2, by omega⟩ b)) (kk.val % 2) (row ⟨kk.val / 32, by omega⟩ (ix2 0 b)) := by
  have hm := fun (l : FVec Ideal S256x128 .bf16) (w : FVec Ideal S128x512 .bf16) (c : FVec Ideal S256x512 .f32) =>
    Ideal.matmul_plain_apply (φ₁ := .bf16) (φ₂ := .bf16) none l w c a b
  show acc (ix2 a b) + FloatOps.matmul (DotDims.plain 256 128 512) none
    (shapeCast S256x128 x shapeCasts_S256x128_S256x128)
    (concatenate S128x512 0 [⟨S32x512, parts' v row 0⟩, ⟨S32x512, parts' v row 1⟩, ⟨S32x512, parts' v row 2⟩,
      ⟨S32x512, parts' v row 3⟩]
      concatenates_S32x512_S32x512_S32x512_S32x512_S128x512_d0)
      (constant S256x512 .f32 0x00000000#32) (ValueIdx.ix2 a b) = _
  rw [hm]
  have hz : constant (F := Ideal) S256x512 .f32 0x00000000#32 (ValueIdx.ix2 a b) = 0 := by pointwise
  rw [hz, zero_add]
  have hx : ∀ kk : Fin 128, shapeCast S256x128 x shapeCasts_S256x128_S256x128 (ix2 a kk) = x (ix2 a kk) := fun kk => by pointwise
  refine congrArg (acc (ix2 a b) + ·) (Finset.sum_congr rfl fun kk _ => ?_)
  refine congrArg₂ (· * ·) (hx kk) ?_
  refine (concat4_apply (parts' v row) kk b).trans ?_
  rw [parts'_apply]
  have hk : (⟨32 * (kk.val / 32) + kk.val % 32, by omega⟩ : Fin 128) = kk := Fin.ext (by show 32 * (kk.val / 32) + kk.val % 32 = kk.val; omega)
  have hr : kk.val % 32 % 2 = kk.val % 2 := by omega
  show k0_pay223 v (ix2 ⟨32 * (kk.val / 32) + kk.val % 32, _⟩ b) * half _ (kk.val % 32 % 2) = _
  rw [hk, hr, pay223_apply]; rfl

/-! ## The sum over the chunks -/

section
variable (X : S256x6528.Idx → Elt Ideal .bf16) (C : S3264x512.Idx → Elt Ideal .i8) (W : S204x512.Idx → Elt Ideal .i32)

theorem ldX_apply (k : ℕ) (h : k < 25) (a : Fin 256) (c : Fin 256) : ldX X k h (ix2 a c) = X (ix2 a ⟨256 * k + c.val, by omega⟩) := by
  refine congrArg X (funext fun d => Fin.ext ?_)
  match d with
  | ⟨0, _⟩ => show 0 + 1 * a.val = a.val; omega
  | ⟨1, _⟩ => show 256 * k + 1 * c.val = 256 * k + c.val; omega

theorem ldX'_apply (a : Fin 256) (c : Fin 128) : ldX' X (ix2 a c) = X (ix2 a ⟨6400 + c.val, by omega⟩) := by
  refine congrArg X (funext fun d => Fin.ext ?_)
  match d with
  | ⟨0, _⟩ => show 0 + 1 * a.val = a.val; omega
  | ⟨1, _⟩ => show 6400 + 1 * c.val = 6400 + c.val; omega

theorem ldC_apply (k : ℕ) (h : k < 25) (r : Fin 128) (b : Fin 512) : ldC C k h (ix2 r b) = C (ix2 ⟨128 * k + r.val, by omega⟩ b) := by
  refine congrArg C (funext fun d => Fin.ext ?_)
  match d with
  | ⟨0, _⟩ => show 128 * k + 1 * r.val = 128 * k + r.val; omega
  | ⟨1, _⟩ => show 0 + 1 * b.val = b.val; omega

theorem ldC'_apply (r : Fin 64) (b : Fin 512) : ldC' C (ix2 r b) = C (ix2 ⟨3200 + r.val, by omega⟩ b) := by
  refine congrArg C (funext fun d => Fin.ext ?_)
  match d with
  | ⟨0, _⟩ => show 3200 + 1 * r.val = 3200 + r.val; omega
  | ⟨1, _⟩ => show 0 + 1 * b.val = b.val; omega

theorem ldW_apply (i : ℕ) (h : i < 204) (b : Fin 512) : ldW W i h (ix2 0 b) = W (ix2 ⟨i, h⟩ b) := by
  refine congrArg W (funext fun d => Fin.ext ?_)
  match d with
  | ⟨0, _⟩ => show i + 1 * 0 = i; omega
  | ⟨1, _⟩ => show 0 + 1 * b.val = b.val; omega

/-- Term `k` of the contraction. -/
def term (a : Fin 256) (b : Fin 512) (k : Fin 6528) : EReal :=
  X (ix2 a k) * wt (C (ix2 ⟨k.val / 2, by omega⟩ b)) (k.val % 2) (W (ix2 ⟨k.val / 32, by omega⟩ b))

/-- The same at a natural number. -/
def termN (a : Fin 256) (b : Fin 512) (k : ℕ) : EReal := if h : k < 6528 then term X C W a b ⟨k, h⟩ else 0

theorem accAt_apply (a : Fin 256) (b : Fin 512) : ∀ (n : ℕ) (h : n ≤ 25),
    accAt X C W n h (ix2 a b) = ∑ k ∈ Finset.range (256 * n), termN X C W a b k
  | 0, _ => by
    rw [Nat.mul_zero, Finset.range_zero, Finset.sum_empty]
    show k0_pay3 (F := Ideal) (ix2 a b) = 0
    pointwise [k0_pay3]
  | n + 1, h => by
    have ih := accAt_apply a b n (by omega)
    show step _ _ _ _ _ = _
    rw [step_apply, ih, Nat.mul_succ, Finset.sum_range_add, Finset.sum_range (n := 256)]
    refine congrArg (_ + ·) (Finset.sum_congr rfl fun kk _ => ?_)
    have hk : 256 * n + kk.val < 6528 := by omega
    rw [termN, dif_pos hk, term, ldX_apply, ldC_apply, ldW_apply]
    have e1 : (⟨128 * n + kk.val / 2, by omega⟩ : Fin 3264) = ⟨(256 * n + kk.val) / 2, by omega⟩ := Fin.ext (by show 128 * n + kk.val / 2 = (256 * n + kk.val) / 2; omega)
    have e2 : (⟨8 * n + kk.val / 32, by omega⟩ : Fin 204) = ⟨(256 * n + kk.val) / 32, by omega⟩ := Fin.ext (by show 8 * n + kk.val / 32 = (256 * n + kk.val) / 32; omega)
    have e3 : (256 * n + kk.val) % 2 = kk.val % 2 := by omega
    dsimp only
    rw [e1, e2, e3]

/-- **The body's result at an index**: the whole row of `x` times the whole column of weights. -/
theorem bodyOut_apply (a : Fin 256) (b : Fin 512) : bodyOut X C W (ix2 a b) = ∑ k : Fin 6528, term X C W a b k := by
  have h1 := last_apply (accAt X C W 25 (Nat.le_refl _)) (ldC' C) (fun r => ldW W (200 + r.val) (by omega)) (ldX' X) a b
  refine h1.trans ?_
  rw [accAt_apply]
  have hf : ∑ k : Fin 6528, term X C W a b k = ∑ k ∈ Finset.range 6528, termN X C W a b k := by
    rw [Finset.sum_range]; refine Finset.sum_congr rfl fun k _ => ?_
    rw [termN, dif_pos k.isLt]
  rw [hf, show 6528 = 256 * 25 + 128 from rfl, Finset.sum_range_add _ (256 * 25) 128, Finset.sum_range (n := 128)]
  refine congrArg (_ + ·) (Finset.sum_congr rfl fun kk _ => ?_)
  have hk : 256 * 25 + kk.val < 6528 := by omega
  rw [termN, dif_pos hk, term, ldX'_apply, ldC'_apply, ldW_apply]
  have e1 : (⟨3200 + kk.val / 2, by omega⟩ : Fin 3264) = ⟨(256 * 25 + kk.val) / 2, by omega⟩ := Fin.ext (by show 3200 + kk.val / 2 = (256 * 25 + kk.val) / 2; omega)
  have e2 : (⟨200 + kk.val / 32, by omega⟩ : Fin 204) = ⟨(256 * 25 + kk.val) / 32, by omega⟩ := Fin.ext (by show 200 + kk.val / 32 = (256 * 25 + kk.val) / 32; omega)
  have e3 : (256 * 25 + kk.val) % 2 = kk.val % 2 := by omega
  dsimp only
  rw [e1, e2, e3]

end

end Cert.KernelIdeal.Body

end
-- ==== Proof.KernelIdealValue.lean ====
module

public import proofs.«01_k».proof.Proof.KernelIdealChunk
public import proofs.«01_k».proof.Proof.KernelIdealFrame

@[expose] public section

set_option maxRecDepth 16384

noncomputable section

namespace Cert.KernelIdeal.Body

open Cert.KernelIdeal Cert.KernelIdeal.Gen

open Idealize.ShloMosaic Idealize.ShloMosaic.TcCoe

open scoped BigOperators

/-! ## What the body leaves in the result's buffer -/

/-- A buffer after one store of all of it reads as what was stored. -/
theorem read_writes_unit {F : FTy → Type} [FloatOps F] {κ : Kind} {sp : Space} {s : Shape} {e : EltTy} (v : View sig κ sp s e)
    {off : Fin s.rank → ℕ} (h : off = fun _ => 0) (inb : ∀ a, off a + s.size a ≤ s.size a) (w : s.Idx → Elt F e) (f) :
    v.read (Elt F) (v.writes (Elt F) f [⟨Rect.unit off s.size inb, w⟩]) = w := by
  subst h; exact View.read_writes_whole v f w

theorem run_value {F : FTy → Type} [FloatOps F] (c : Dev nD) (i : grid0.Coords)
    (M1 : Memref sig .tc .vmem S256x6528 .bf16) (h1 : M1.IsWhole) (M2 : Memref sig .tc .vmem S3264x512 .i8) (h2 : M2.IsWhole)
    (M3 : Memref sig .tc .vmem S204x512 .i8) (h3 : M3.IsWhole) (M4 : Memref sig .tc .vmem S256x512 .bf16) (h4 : M4.IsWhole)
    (f1 : Bf (F := F) c M1) (f2 : Bf (F := F) c M2) (f3 : Bf (F := F) c M3) :
    M4.view.read (Elt F) (kernelRun c i M1 h1 M2 h2 M3 h3 M4 h4 (Memref.whole cc0_scratch0) (Memref.isWhole_whole _) f1 f2 f3).1
      = bodyOut (M1.view.read (Elt F) f1) (M2.view.read (Elt F) f2) (k0_pay2 (M3.view.read (Elt F) f3)) := by
  have hz : (![0, 0] : Fin 2 → ℕ) = fun _ => 0 := by funext a; fin_cases a <;> rfl
  dsimp only [kernelRun]
  rw [run_pieces, read_writes_unit _ hz]
  refine congrArg (bodyOut _ _) ?_
  refine (read_writes_unit (Memref.whole cc0_scratch0).view hz inb_S204x512_S204x512_0_0
    (k0_pay2 (View.ld (M3.view.read (Elt F) f3) (Rect.unit ![0, 0] S204x512.size inb_S204x512_S204x512_0_0))) _).trans ?_
  rw [View.ld_unit_zero hz]

/-! ## The windows -/

theorem idx0 : ∀ t : Fin grid0.N, win0_0.index t = ![0, 0] := by decide +kernel
theorem idx1 : ∀ t : Fin grid0.N, win0_1.index t = ![0, t.val] := by decide +kernel
theorem idx2 : ∀ t : Fin grid0.N, win0_2.index t = ![0, t.val] := by decide +kernel
theorem idx3 : ∀ t : Fin grid0.N, win0_3.index t = ![0, t.val] := by decide +kernel
theorem xs1 : ∀ t : Fin grid0.N, win0_1.xsize (grid0.coords t) = ![3264, min 512 (9600 - 512 * t.val)] := by decide +kernel
theorem xs2 : ∀ t : Fin grid0.N, win0_2.xsize (grid0.coords t) = ![204, min 512 (9600 - 512 * t.val)] := by decide +kernel
theorem xs3 : ∀ t : Fin grid0.N, win0_3.xsize (grid0.coords t) = ![256, min 512 (9600 - 512 * t.val)] := by decide +kernel

variable (m : (ℓ : Loc nD τ sig) → Buf (Elt Ideal) ℓ)

theorem blk0_apply (c : Dev nD) (t : Fin cfg0.N) (a : Fin 256) (k : Fin 6528) :
    iblk m c 0 t (ix2 a k) = V m c main_v2 (ix2 a k) := by
  refine congrArg (V m c main_v2) (funext fun d => Fin.ext ?_)
  refine (win0_0.rect_emb_val t _ d).trans ?_
  rw [idx0]
  match d with
  | ⟨0, _⟩ => show 0 * 256 + a.val = a.val; omega
  | ⟨1, _⟩ => show 0 * 6528 + k.val = k.val; omega

/-- The codes' buffer at a column inside the array. -/
theorem fill1_apply (c : Dev nD) (t : Fin cfg0.N) (d : S3264x512.Idx → Elt Ideal .i8) (r : Fin 3264) (b : Fin 512)
    (h : 512 * t.val + b.val < 9600) :
    win0_1.fill (grid0.coords t) d (iblk m c 1 t) (ix2 r b) = V m c main_v0 (ix2 r ⟨512 * t.val + b.val, h⟩) := by
  have hm : win0_1.moved (grid0.coords t) (ix2 r b) = true := (win0_1.moved_iff _ _).mpr fun a => by
    rw [xs1]
    match a with
    | ⟨0, _⟩ => exact r.isLt
    | ⟨1, _⟩ => show b.val < min 512 (9600 - 512 * t.val); omega
  unfold Pipeline.Window.fill
  rw [dif_pos hm]
  refine congrArg (V m c main_v0) (funext fun d => Fin.ext ?_)
  refine (win0_1.rect_emb_val t _ d).trans ?_
  rw [idx1]
  match d with
  | ⟨0, _⟩ => show 0 * 3264 + r.val = r.val; omega
  | ⟨1, _⟩ => show t.val * 512 + b.val = 512 * t.val + b.val; omega

theorem fill2_apply (c : Dev nD) (t : Fin cfg0.N) (d : S204x512.Idx → Elt Ideal .i8) (r : Fin 204) (b : Fin 512)
    (h : 512 * t.val + b.val < 9600) :
    win0_2.fill (grid0.coords t) d (iblk m c 2 t) (ix2 r b) = V m c main_v1 (ix2 r ⟨512 * t.val + b.val, h⟩) := by
  have hm : win0_2.moved (grid0.coords t) (ix2 r b) = true := (win0_2.moved_iff _ _).mpr fun a => by
    rw [xs2]
    match a with
    | ⟨0, _⟩ => exact r.isLt
    | ⟨1, _⟩ => show b.val < min 512 (9600 - 512 * t.val); omega
  unfold Pipeline.Window.fill
  rw [dif_pos hm]
  refine congrArg (V m c main_v1) (funext fun d => Fin.ext ?_)
  refine (win0_2.rect_emb_val t _ d).trans ?_
  rw [idx2]
  match d with
  | ⟨0, _⟩ => show 0 * 204 + r.val = r.val; omega
  | ⟨1, _⟩ => show t.val * 512 + b.val = 512 * t.val + b.val; omega

/-! ## The result -/

/-- A scale code's word: the code in both sixteen-bit halves, shifted to the exponent's place. -/
def word (s : BitVec 8) : BitVec 32 := IntOp.muli (s.setWidth 32) 8388736#32

theorem pay2_apply (S : Vec Ideal S204x512 .i8) (j : S204x512.Idx) : k0_pay2 (F := Ideal) S j = word (S j) := by
  pointwise [k0_pay2]
  rfl

/-- The product at an index, over the arrays the windows are of. -/
def prod (x : S256x6528.Idx → EReal) (C : S3264x9600.Idx → BitVec 8) (S : S204x9600.Idx → BitVec 8) : S256x9600.Idx → EReal :=
  fun j => ∑ k : Fin 6528, x (ix2 (j 0) k) *
    wt (C (ix2 ⟨k.val / 2, by omega⟩ (j 1))) (k.val % 2) (word (S (ix2 ⟨k.val / 32, by omega⟩ (j 1))))

/-- The kernel's result array on device `c`. -/
def G (c : Dev nD) : S256x9600.Idx → EReal := prod (V m c main_v2) (V m c main_v0) (V m c main_v1)

/-- The body's result in a column inside the array. -/
theorem bodyOut_col (c : Dev nD) (t : Fin cfg0.N) (d1 : S3264x512.Idx → Elt Ideal .i8) (d2 : S204x512.Idx → Elt Ideal .i8)
    (a : Fin 256) (b : Fin 512) (h : 512 * t.val + b.val < 9600) :
    bodyOut (F := Ideal) (iblk m c 0 t) (win0_1.fill (grid0.coords t) d1 (iblk m c 1 t))
      (k0_pay2 (win0_2.fill (grid0.coords t) d2 (iblk m c 2 t))) (ix2 a b) = G m c (ix2 a ⟨512 * t.val + b.val, h⟩) := by
  refine (bodyOut_apply _ _ _ a b).trans ?_
  unfold G prod
  refine Finset.sum_congr rfl fun k _ => ?_
  unfold term
  rw [pay2_apply, fill1_apply m c t d1 _ b h, fill2_apply m c t d2 _ b h]
  exact congrArg (· * _) (blk0_apply m c t a k)

/-- What the result's buffer is said to hold after the body: the result's block in the columns inside the array. -/
def out (c : Dev nD) (t : Fin cfg0.N) : S256x512.Idx → Elt Ideal .bf16 :=
  bodyOut (F := Ideal) (iblk m c 0 t) (blk1 m c t) (k0_pay2 (blk2 m c t))

theorem out_col (c : Dev nD) (t : Fin cfg0.N) (a : Fin 256) (b : Fin 512) (h : 512 * t.val + b.val < 9600) :
    out m c t (ix2 a b) = G m c (ix2 a ⟨512 * t.val + b.val, h⟩) := bodyOut_col m c t _ _ a b h

/-- An index of the part of the block inside the array. -/
theorem cut_idx (t : Fin cfg0.N) (y : (win0_3.xblock (grid0.coords t)).Idx) :
    ∃ (a : Fin 256) (b : Fin 512), win0_3.xinj (grid0.coords t) y = ix2 a b ∧ 512 * t.val + b.val < 9600 ∧
      (y 0).val = a.val ∧ (y 1).val = b.val := by
  have h0 : (y 0).val < 256 := by have h := (y 0).isLt; have e := congrFun (xs3 t) 0; exact lt_of_lt_of_eq h e
  have h1 : (y 1).val < min 512 (9600 - 512 * t.val) := by have h := (y 1).isLt; have e := congrFun (xs3 t) 1; exact lt_of_lt_of_eq h e
  refine ⟨⟨(y 0).val, h0⟩, ⟨(y 1).val, by omega⟩, ?_, by show 512 * t.val + (y 1).val < 9600; omega, rfl, rfl⟩
  funext d
  match d with
  | ⟨0, _⟩ => rfl
  | ⟨1, _⟩ => rfl

theorem body (c : Dev nD) : Pipeline.BodyObligationLoose (dats m (out m) 0 c) defs₀ Variants.none () Set.univ := by
  refine body_value m (out m) c fun t d1 d2 f1 f2 f3 e1 e2 e3 => ?_
  rw [run_value, e1, e2, e3]
  funext y
  obtain ⟨a, b, e, h, -, -⟩ := cut_idx t y
  show bodyOut (F := Ideal) _ _ _ (win0_3.xinj (grid0.coords t) y) = out m c t (win0_3.xinj (grid0.coords t) y)
  rw [e, bodyOut_col m c t d1 d2 a b h, out_col m c t a b h]

/-- **The result array after the grid.** -/
theorem final (c : Dev nD) : (dats m (out m) 0 c).arrAt (3 : Fin 4) cfg0.N = G m c := by
  refine (dats m (out m) 0 c).arrAt_eq_of_covers (3 : Fin 4) _ (by decide +kernel) fun t hf y => ?_
  obtain ⟨a, b, e, h, ea, eb⟩ := cut_idx t y
  rw [after_eq3]
  show out m c t (win0_3.xinj (grid0.coords t) y) = _
  rw [e, out_col m c t a b h]
  refine congrArg (G m c) (funext fun d => Fin.ext ?_)
  refine Eq.symm ((win0_3.rect_emb_val t y d).trans ?_)
  rw [idx3]
  match d with
  | ⟨0, _⟩ => show 0 * 256 + (y 0).val = a.val; omega
  | ⟨1, _⟩ => show t.val * 512 + (y 1).val = 512 * t.val + b.val; omega

end Cert.KernelIdeal.Body

end
-- ==== Proof.KernelIdealRun.lean ====
module

public import proofs.«01_k».proof.Proof.KernelIdealValue
public import Idealize.ShloMosaic.Lib.Claim

@[expose] public section

set_option maxRecDepth 16384

noncomputable section

namespace Cert.KernelIdeal.Body

open Cert.KernelIdeal Cert.KernelIdeal.Gen

open Idealize.ShloMosaic Idealize.ShloMosaic.TcCoe

open scoped BigOperators

variable (m : (ℓ : Loc nD τ sig) → Buf (Elt Ideal) ℓ) (ρ : Dev nD → PrngReg)

/-! ## The result over the arguments -/

/-- The product over the program's arguments: activations `x`, packed weights `C`, scales `S`. -/
def value (x : S256x1x6528.Idx → EReal) (C : S9600x3264.Idx → BitVec 8) (S : S9600x204.Idx → BitVec 8) : S256x1x9600.Idx → EReal :=
  fun j => ∑ k : Fin 6528, x (ix3 (j 0) 0 k) *
    wt (C (ix2 (j 2) ⟨k.val / 2, by omega⟩)) (k.val % 2) (word (S (ix2 (j 2) ⟨k.val / 32, by omega⟩)))

theorem codes_eq (c : Dev nD) : V m c main_v0
    = transpose S3264x9600 [1, 0] (m ((c.tc : Thread nD τ).loc main_arg1)) transposes_S9600x3264_S3264x9600_1_0 := by
  show StableHlo.after hostOps0 _ _ = _
  after_results

theorem scales_eq (c : Dev nD) : V m c main_v1
    = transpose S204x9600 [1, 0] (m ((c.tc : Thread nD τ).loc main_arg2)) transposes_S9600x204_S204x9600_1_0 := by
  show StableHlo.after hostOps0 _ _ = _
  after_results

theorem acts_eq (c : Dev nD) : V m c main_v2
    = shapeCast S256x6528 (m ((c.tc : Thread nD τ).loc main_arg0)) shapeCasts_S256x1x6528_S256x6528 := by
  show StableHlo.after hostOps0 _ _ = _
  after_results
  rfl

/-- A middle dimension of one taken out, at an index. -/
theorem acts_apply (x : S256x1x6528.Idx → EReal) (a : Fin 256) (k : Fin 6528) :
    shapeCast S256x6528 x shapeCasts_S256x1x6528_S256x6528 (ix2 a k) = x (ix3 a 0 k) := by
  pointwise []

/-- A middle dimension of one put in, at an index. -/
theorem result_apply (x : S256x9600.Idx → EReal) (a : Fin 256) (n : Fin 9600) :
    shapeCast S256x1x9600 x shapeCasts_S256x9600_S256x1x9600 (ix3 a 0 n) = x (ix2 a n) := by
  pointwise []

theorem codes_apply (x : S9600x3264.Idx → BitVec 8) (i : Fin 3264) (n : Fin 9600) :
    transpose S3264x9600 [1, 0] x transposes_S9600x3264_S3264x9600_1_0 (ix2 i n) = x (ix2 n i) := by
  pointwise []

theorem scales_apply (x : S9600x204.Idx → BitVec 8) (i : Fin 204) (n : Fin 9600) :
    transpose S204x9600 [1, 0] x transposes_S9600x204_S204x9600_1_0 (ix2 i n) = x (ix2 n i) := by
  pointwise []

/-- The result array, with its middle dimension of one put back, is the product over the arguments. -/
theorem value_eq (c : Dev nD) : shapeCast S256x1x9600 (G m c) shapeCasts_S256x9600_S256x1x9600
    = value (m ((c.tc : Thread nD τ).loc main_arg0)) (m ((c.tc : Thread nD τ).loc main_arg1)) (m ((c.tc : Thread nD τ).loc main_arg2)) := by
  funext j
  obtain ⟨a, z, n, rfl⟩ : ∃ (a : Fin 256) (z : Fin 1) (n : Fin 9600), j = ix3 a z n :=
    ⟨j 0, j 1, j 2, funext fun d => by match d with | ⟨0, _⟩ => rfl | ⟨1, _⟩ => rfl | ⟨2, _⟩ => rfl⟩
  obtain rfl : z = 0 := Subsingleton.elim _ _
  refine (result_apply (G m c) a n).trans ?_
  unfold G prod value
  rw [codes_eq, scales_eq, acts_eq]
  refine Finset.sum_congr rfl fun k _ => ?_
  exact congrArg₂ (· * ·) (acts_apply _ a k)
    (congrArg₂ (fun p q => wt p (k.val % 2) (word q)) (codes_apply _ _ n) (scales_apply _ _ n))

set_option backward.isDefEq.respectTransparency.types false in
/-- The program's run: the result ends holding the product, the arguments end unchanged. -/
theorem run : θ_run (defs (F := Ideal)) (onTc (τ := τ) (main (F := Ideal))) ⟨m, fun _ => 0, ρ⟩ (fun r => ∀ c : Dev nD,
      r.2.mem ((c.tc : Thread nD τ).loc main_v4)
        = value (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) := by
  refine θ_run_mono (Pipeline.θ_run_frame_tail cfgs (dats m (out m)) 0 launch0 defs₀ Variants.none m ρ main hostOps0 hostOps1
    hostOps0_sub hostOps1_sub main_chain (body m) (fun c => (dats m _ 0 c).share_full fun _ => rfl) (fun _ _ => rfl)
    (fun _ _ => rfl) (fun _ _ => rfl)) ?_
  intro r h c
  refine ⟨?_, ?_, ?_, ?_⟩
  · refine (h c main_v4 rfl).trans (Eq.trans ?_ (value_eq m c))
    after_region_results
    erw [Pipeline.afterRegion_arr (dats m (out m) 0 c) _ (by decide) (3 : Fin 4)]
    rw [final]
    try rfl
  · refine (h c main_arg0 rfl).trans ?_
    after_region_results
  · refine (h c main_arg1 rfl).trans ?_
    after_region_results
  · refine (h c main_arg2 rfl).trans ?_
    after_region_results

end Cert.KernelIdeal.Body

end
-- ==== Proof.ReferenceIdealValue.lean ====
module

public import proofs.«01_k».proof.Proof.Gen.ReferenceIdeal.Run
public import Idealize.ShloMosaic.Lib.MatmulPlain
public import Idealize.ShloMosaic.Lib.Pipeline.ValueKit

@[expose] public section

set_option maxRecDepth 16384

noncomputable section

namespace Cert.ReferenceIdeal.Value

open Cert.ReferenceIdeal Cert.ReferenceIdeal.Gen

open Idealize.ShloMosaic Idealize.ShloMosaic.TcCoe

open scoped BigOperators

/-! ## The reference's parts, as arrays -/

/-- One integer at every index of a weight array. -/
abbrev kI (n : BitVec 32) : IVec S9600x3264 32 := broadcastInDim S9600x3264 ![] bcast_S_S9600x3264 (constantI S_ 32 n)

/-- One bf16 number at every index of a weight array. -/
abbrev kF (b : BitVec 16) : Vec Ideal S9600x3264 .bf16 := broadcastInDim S9600x3264 ![] bcast_S_S9600x3264 (constant (F := Ideal) S_ .bf16 b)

/-- Whether a bit of the code is set. -/
abbrev bit (v : IVec S9600x3264 32) (n : BitVec 32) : IVec S9600x3264 1 := cmpi .ne (andi v (kI n)) (kI 0#32)

/-- The size of a 4-bit code. -/
abbrev magV (v : IVec S9600x3264 32) : Vec Ideal S9600x3264 .bf16 :=
  select (bit v 4#32)
    (select (bit v 2#32) (select (bit v 1#32) (kF 0x40C0#16) (kF 0x4080#16)) (select (bit v 1#32) (kF 0x4040#16) (kF 0x4000#16)))
    (select (bit v 2#32) (select (bit v 1#32) (kF 0x3FC0#16) (kF 0x3F80#16)) (select (bit v 1#32) (kF 0x3F00#16) (kF 0x0000#16)))

/-- The value of a 4-bit code. -/
abbrev decV (v : IVec S9600x3264 32) : Vec Ideal S9600x3264 .bf16 :=
  select (bit v 8#32) (Host.negf (F := Ideal) (φ := .bf16) (magV v)) (magV v)

/-- The value of a scale code, once per scale. -/
abbrev scaleV (S : Vec Ideal S9600x204 .i8) : Vec Ideal S9600x204 .bf16 :=
  truncf (F := Ideal) .bf16 (select (cmpi .eq (extui 32 S natLt_8_32) (broadcastInDim S9600x204 ![] bcast_S_S9600x204 (constantI S_ 32 0#32)))
    (broadcastInDim S9600x204 ![] bcast_S_S9600x204 (id (constant (F := Ideal) S_ .f32 0x00000000#32)))
    (select (cmpi .eq (extui 32 S natLt_8_32) (broadcastInDim S9600x204 ![] bcast_S_S9600x204 (constantI S_ 32 255#32)))
      (broadcastInDim S9600x204 ![] bcast_S_S9600x204 (id (constant (F := Ideal) S_ .f32 0x7F800000#32)))
      (Host.powf (F := Ideal) (broadcastInDim S9600x204 ![] bcast_S_S9600x204 (constant (F := Ideal) S_ .f32 0x40000000#32))
        (sitofp (F := Ideal) .f32 (subi (extui 32 S natLt_8_32) (broadcastInDim S9600x204 ![] bcast_S_S9600x204 (constantI S_ 32 127#32))))))) bitsLt_bf16_f32

/-- The scales, each repeated over its 16 packed weights. -/
abbrev repV (S : Vec Ideal S9600x204 .i8) : Vec Ideal S9600x3264 .bf16 :=
  shapeCast S9600x3264 (broadcastInDim S9600x204x16 ![0, 1] bcast_S9600x204_S9600x204x16_0_1 (scaleV S)) shapeCasts_S9600x204x16_S9600x3264

/-- The low four bits of every byte. -/
abbrev loV (C : Vec Ideal S9600x3264 .i8) : IVec S9600x3264 32 := andi (extui 32 C natLt_8_32) (kI 15#32)

/-- The high four bits of every byte. -/
abbrev hiV (C : Vec Ideal S9600x3264 .i8) : IVec S9600x3264 32 := Host.shrsi (extui 32 C natLt_8_32) (kI 4#32)

/-! ## The same at one element -/

/-- The size of a 4-bit code: a choice by its bits. -/
def mag (n : BitVec 32) : EReal :=
  Scalar.select (IntOp.cmpi .ne (IntOp.andi n 4#32) 0#32)
    (Scalar.select (IntOp.cmpi .ne (IntOp.andi n 2#32) 0#32)
      (Scalar.select (IntOp.cmpi .ne (IntOp.andi n 1#32) 0#32) (Ideal.ofBits .bf16 0x40C0#16) (Ideal.ofBits .bf16 0x4080#16))
      (Scalar.select (IntOp.cmpi .ne (IntOp.andi n 1#32) 0#32) (Ideal.ofBits .bf16 0x4040#16) (Ideal.ofBits .bf16 0x4000#16)))
    (Scalar.select (IntOp.cmpi .ne (IntOp.andi n 2#32) 0#32)
      (Scalar.select (IntOp.cmpi .ne (IntOp.andi n 1#32) 0#32) (Ideal.ofBits .bf16 0x3FC0#16) (Ideal.ofBits .bf16 0x3F80#16))
      (Scalar.select (IntOp.cmpi .ne (IntOp.andi n 1#32) 0#32) (Ideal.ofBits .bf16 0x3F00#16) (Ideal.ofBits .bf16 0x0000#16)))

/-- The value of a 4-bit code. -/
def dec (n : BitVec 32) : EReal := Scalar.select (IntOp.cmpi .ne (IntOp.andi n 8#32) 0#32) (-mag n) (mag n)

/-- The value of a scale code. -/
def scale (s : BitVec 8) : EReal :=
  Scalar.select (IntOp.cmpi .eq (s.setWidth 32) 0#32) (Ideal.ofBits .f32 0x00000000#32)
    (Scalar.select (IntOp.cmpi .eq (s.setWidth 32) 255#32) (Ideal.ofBits .f32 0x7F800000#32)
      (Ideal.pow (Ideal.ofBits .f32 0x40000000#32) (FloatOps.sitofp (F := Ideal) .f32 (IntOp.subi (s.setWidth 32) 127#32))))

/-- The low four bits of a byte. -/
def lo (b : BitVec 8) : BitVec 32 := IntOp.andi (b.setWidth 32) 15#32

/-- The high four bits of a byte. -/
def hi (b : BitVec 8) : BitVec 32 := IntOp.shrsi ArithUnit.host (b.setWidth 32) 4#32

theorem decV_apply (v : IVec S9600x3264 32) (n : Fin 9600) (i : Fin 3264) : decV v (ix2 n i) = dec (v (ix2 n i)) := by
  rfl

theorem loV_apply (C : Vec Ideal S9600x3264 .i8) (n : Fin 9600) (i : Fin 3264) : loV C (ix2 n i) = lo (C (ix2 n i)) := by
  rfl

theorem hiV_apply (C : Vec Ideal S9600x3264 .i8) (n : Fin 9600) (i : Fin 3264) : hiV C (ix2 n i) = hi (C (ix2 n i)) := by
  rfl

theorem scaleV_apply (S : Vec Ideal S9600x204 .i8) (n : Fin 9600) (i : Fin 204) : scaleV S (ix2 n i) = scale (S (ix2 n i)) := by
  rfl

/-- A scale stands over 16 packed weights. -/
theorem rep_apply (x : Vec Ideal S9600x204 .bf16) (n : Fin 9600) (i : Fin 3264) :
    shapeCast S9600x3264 (broadcastInDim S9600x204x16 ![0, 1] bcast_S9600x204_S9600x204x16_0_1 x) shapeCasts_S9600x204x16_S9600x3264 (ix2 n i)
      = x (ix2 n ⟨i.val / 16, by omega⟩) := by
  pointwise []

/-- The contraction over the packed weights' axis. -/
theorem dot_apply (x : S256x1x3264.Idx → EReal) (w : S9600x3264.Idx → EReal) (a : Fin 256) (n : Fin 9600) :
    Host.dotGeneral (F := Ideal) (φ₁ := .bf16) (φ₂ := .bf16) dot_S256x1x3264_S9600x3264_S256x1x9600_2_1_01_0_n_n none x w (ix3 a 0 n)
      = ∑ i : Fin 3264, x (ix3 a 0 i) * w (ix2 n i) := by
  pointwise []

/-- Every second activation, from the first. -/
theorem even_apply (x : S256x1x6528.Idx → EReal) (a : Fin 256) (i : Fin 3264) :
    Host.slice S256x1x3264 ![0, 0, 0] ![1, 1, 2] x slicesBy_S256x1x6528_S256x1x3264_0s1_0s1_0s2 (ix3 a 0 i)
      = x (ix3 a 0 ⟨2 * i.val, by omega⟩) := by
  pointwise []

/-- Every second activation, from the second. -/
theorem odd_apply (x : S256x1x6528.Idx → EReal) (a : Fin 256) (i : Fin 3264) :
    Host.slice S256x1x3264 ![0, 0, 1] ![1, 1, 2] x slicesBy_S256x1x6528_S256x1x3264_0s1_0s1_1s2 (ix3 a 0 i)
      = x (ix3 a 0 ⟨2 * i.val + 1, by omega⟩) := by
  pointwise []
  exact congrArg x (congrArg (ix3 a 0) (Fin.ext (Nat.add_comm _ _)))

/-! ## The result -/

/-- The reference's result over its arguments, at an index. -/
def value (x : S256x1x6528.Idx → EReal) (C : S9600x3264.Idx → BitVec 8) (S : S9600x204.Idx → BitVec 8) : S256x1x9600.Idx → EReal :=
  fun j => (∑ i : Fin 3264, x (ix3 (j 0) 0 ⟨2 * i.val, by omega⟩) * (dec (lo (C (ix2 (j 2) i))) * scale (S (ix2 (j 2) ⟨i.val / 16, by omega⟩))))
    + ∑ i : Fin 3264, x (ix3 (j 0) 0 ⟨2 * i.val + 1, by omega⟩) * (dec (hi (C (ix2 (j 2) i))) * scale (S (ix2 (j 2) ⟨i.val / 16, by omega⟩)))

variable (m : (ℓ : Loc nD τ sig) → Buf (Elt Ideal) ℓ)

/-- The reference's composed term, its parts named. -/
theorem res_parts (c : Dev nD) : res_main_v77 m c
    = truncf (F := Ideal) .bf16 (addf (F := Ideal) (φ := .f32)
        (Host.dotGeneral (F := Ideal) (φ₁ := .bf16) (φ₂ := .bf16) dot_S256x1x3264_S9600x3264_S256x1x9600_2_1_01_0_n_n none
          (Host.slice S256x1x3264 ![0, 0, 0] ![1, 1, 2] (m ((c.tc : Thread nD τ).loc main_arg0)) slicesBy_S256x1x6528_S256x1x3264_0s1_0s1_0s2)
          (mulf (F := Ideal) (φ := .bf16) (decV (loV (m ((c.tc : Thread nD τ).loc main_arg1)))) (repV (m ((c.tc : Thread nD τ).loc main_arg2)))))
        (Host.dotGeneral (F := Ideal) (φ₁ := .bf16) (φ₂ := .bf16) dot_S256x1x3264_S9600x3264_S256x1x9600_2_1_01_0_n_n none
          (Host.slice S256x1x3264 ![0, 0, 1] ![1, 1, 2] (m ((c.tc : Thread nD τ).loc main_arg0)) slicesBy_S256x1x6528_S256x1x3264_0s1_0s1_1s2)
          (mulf (F := Ideal) (φ := .bf16) (decV (hiV (m ((c.tc : Thread nD τ).loc main_arg1)))) (repV (m ((c.tc : Thread nD τ).loc main_arg2))))))
      bitsLt_bf16_f32 := by
  unfold res_main_v77
  rfl

/-- The sum of the two contractions, at an index. -/
theorem parts_apply (x : S256x1x6528.Idx → EReal) (C : S9600x3264.Idx → BitVec 8) (S : S9600x204.Idx → BitVec 8) (a : Fin 256) (n : Fin 9600) :
    Host.dotGeneral (F := Ideal) (φ₁ := .bf16) (φ₂ := .bf16) dot_S256x1x3264_S9600x3264_S256x1x9600_2_1_01_0_n_n none
          (Host.slice S256x1x3264 ![0, 0, 0] ![1, 1, 2] x slicesBy_S256x1x6528_S256x1x3264_0s1_0s1_0s2) (mulf (F := Ideal) (φ := .bf16) (decV (loV C)) (repV S)) (ix3 a 0 n)
      + Host.dotGeneral (F := Ideal) (φ₁ := .bf16) (φ₂ := .bf16) dot_S256x1x3264_S9600x3264_S256x1x9600_2_1_01_0_n_n none
          (Host.slice S256x1x3264 ![0, 0, 1] ![1, 1, 2] x slicesBy_S256x1x6528_S256x1x3264_0s1_0s1_1s2) (mulf (F := Ideal) (φ := .bf16) (decV (hiV C)) (repV S)) (ix3 a 0 n)
      = value x C S (ix3 a 0 n) := by
  unfold value
  refine congrArg₂ (· + ·) ((dot_apply _ _ a n).trans (Finset.sum_congr rfl fun i _ => ?_)) ((dot_apply _ _ a n).trans (Finset.sum_congr rfl fun i _ => ?_))
  · exact congrArg₂ (· * ·) (even_apply x a i) (congrArg₂ (· * ·) ((decV_apply _ n i).trans (congrArg dec (loV_apply C n i))) ((rep_apply (scaleV S) n i).trans (scaleV_apply S n _)))
  · exact congrArg₂ (· * ·) (odd_apply x a i) (congrArg₂ (· * ·) ((decV_apply _ n i).trans (congrArg dec (hiV_apply C n i))) ((rep_apply (scaleV S) n i).trans (scaleV_apply S n _)))

/-- **The reference's result, over its arguments.** -/
theorem res_eq (c : Dev nD) : res_main_v77 m c
    = value (m ((c.tc : Thread nD τ).loc main_arg0)) (m ((c.tc : Thread nD τ).loc main_arg1)) (m ((c.tc : Thread nD τ).loc main_arg2)) := by
  rw [res_parts]
  funext j
  obtain ⟨a, z, n, rfl⟩ : ∃ (a : Fin 256) (z : Fin 1) (n : Fin 9600), j = ix3 a z n :=
    ⟨j 0, j 1, j 2, funext fun d => by match d with | ⟨0, _⟩ => rfl | ⟨1, _⟩ => rfl | ⟨2, _⟩ => rfl⟩
  obtain rfl : z = 0 := Subsingleton.elim _ _
  exact parts_apply _ _ _ a n

end Cert.ReferenceIdeal.Value

end
-- ==== Proof.Compare.lean ====
module

public import proofs.«01_k».proof.Proof.KernelIdealRun
public import proofs.«01_k».proof.Proof.ReferenceIdealValue

@[expose] public section

set_option maxRecDepth 16384

noncomputable section

namespace Cert.Compare

open Idealize.ShloMosaic

open scoped BigOperators

/-! ## The scales -/

/-- A kernel's scale word holds the scale's code as the exponent of a bf16 number, in either half. -/
theorem word_half (s : BitVec 8) : (KernelIdeal.Body.word s).extractLsb' 0 16 = s.setWidth 16 <<< 7
    ∧ (KernelIdeal.Body.word s).extractLsb' 16 16 = s.setWidth 16 <<< 7 := by
  revert s; decide +kernel

/-- The fields of such a number. -/
theorem fields (s : BitVec 8) : (s.setWidth 16 <<< 7).extractLsb' (8 + 7) 1 = 0#1 ∧ (s.setWidth 16 <<< 7).extractLsb' 7 8 = s
    ∧ (s.setWidth 16 <<< 7).extractLsb' 0 7 = 0#7 := by
  revert s; decide +kernel

/-- Which of the reference's three cases a code is in, and its exponent read signed. -/
theorem cases (s : BitVec 8) : IntOp.cmpi .eq (s.setWidth 32) 0#32 = BitVec.ofBool (decide (s.toNat = 0))
    ∧ IntOp.cmpi .eq (s.setWidth 32) 255#32 = BitVec.ofBool (decide (s.toNat = 255))
    ∧ (IntOp.subi (s.setWidth 32) 127#32).toInt = (s.toNat : ℤ) - 127 := by
  revert s; decide +kernel

theorem select_ofBool {α : Type} (p : Prop) [Decidable p] (a b : α) : Scalar.select (BitVec.ofBool (decide p)) a b = if p then a else b := by
  unfold Scalar.select; by_cases h : p <;> simp [h]

theorem two_f32 : Ideal.ofBits .f32 0x40000000#32 = ((2 : ℝ) : EReal) := by
  simp [Ideal.ofBits, Ideal.ieee, -EReal.coe_mul]; norm_num

theorem inf_f32 : Ideal.ofBits .f32 0x7F800000#32 = ⊤ := by
  simp [Ideal.ofBits, Ideal.ieee]

/-- A bf16 number of exponent code `s` is the reference's value of the scale `s`. -/
theorem scale_eq (s : BitVec 8) : Ideal.ofBits .bf16 (s.setWidth 16 <<< 7) = ReferenceIdeal.Value.scale s := by
  obtain ⟨f1, f2, f3⟩ := fields s
  obtain ⟨c1, c2, c3⟩ := cases s
  have hs : s.toNat < 256 := s.isLt
  have hl : Ideal.ofBits .bf16 (s.setWidth 16 <<< 7) = if s.toNat = 255 then ⊤ else if s.toNat = 0 then 0
      else (((2 : ℝ) ^ ((s.toNat : ℤ) - 127) : ℝ) : EReal) := by
    show Ideal.ieee 8 7 _ = _
    unfold Ideal.ieee
    simp only [f1, f2, f3]
    norm_num
    refine if_congr Iff.rfl rfl (if_congr Iff.rfl rfl ?_)
    have e : (2 : ℝ) ^ ((s.toNat : ℤ) - 127) = 128 * (2 : ℝ) ^ ((s.toNat : ℤ) - 127 - 7) := by
      rw [show ((s.toNat : ℤ) - 127) = 7 + ((s.toNat : ℤ) - 127 - 7) by ring, zpow_add₀ (by norm_num)]
      norm_num
    rw [e, EReal.coe_mul]
  have hr : ReferenceIdeal.Value.scale s = if s.toNat = 0 then 0 else if s.toNat = 255 then ⊤
      else (((2 : ℝ) ^ ((s.toNat : ℤ) - 127) : ℝ) : EReal) := by
    unfold ReferenceIdeal.Value.scale
    rw [two_f32, inf_f32, Ideal.ofBits_zero_f32]
    show Scalar.select _ _ (Scalar.select _ _ (Ideal.pow _ (((IntOp.subi (s.setWidth 32) 127#32).toInt : ℝ) : EReal))) = _
    rw [c1, c2, c3, Ideal.pow_coe_coe, select_ofBool, select_ofBool]
    refine if_congr Iff.rfl rfl (if_congr Iff.rfl rfl (congrArg _ ?_))
    exact Real.rpow_intCast 2 _
  rw [hl, hr]
  split_ifs <;> first | rfl | omega

/-- Either half of a kernel's scale word is the reference's value of the scale. -/
theorem half_word (s : BitVec 8) (p : ℕ) (hp : p < 2) : KernelIdeal.Body.half (KernelIdeal.Body.word s) p = ReferenceIdeal.Value.scale s := by
  rw [← scale_eq]
  unfold KernelIdeal.Body.half
  match p, hp with
  | 0, _ => rw [show 16 * 0 = 0 from rfl, (word_half s).1]
  | 1, _ => rw [show 16 * 1 = 16 from rfl, (word_half s).2]

/-! ## The 4-bit codes -/

/-- Both texts take the same four bits of a byte. -/
theorem nib_lo (b : BitVec 8) : KernelIdeal.Body.nib b 0 = ReferenceIdeal.Value.lo b := rfl

theorem nib_hi (b : BitVec 8) : KernelIdeal.Body.nib b 1 = ReferenceIdeal.Value.hi b := by
  revert b; decide +kernel

theorem lo_lt (b : BitVec 8) : (ReferenceIdeal.Value.lo b).toNat < 16 := by
  revert b; decide +kernel

theorem hi_lt (b : BitVec 8) : (ReferenceIdeal.Value.hi b).toNat < 16 := by
  revert b; decide +kernel

theorem half_f32 : Ideal.ofBits .f32 0x3F000000#32 = ((1 / 2 : ℝ) : EReal) := by
  simp [Ideal.ofBits, Ideal.ieee, -EReal.coe_mul]; norm_num

/-- The eight sizes: twice the size as an integer, beside the size's own pattern. -/
def sizes : List (ℤ × BitVec 16) :=
  [(0, 0x0000#16), (1, 0x3F00#16), (2, 0x3F80#16), (3, 0x3FC0#16), (4, 0x4000#16), (6, 0x4040#16), (8, 0x4080#16), (12, 0x40C0#16)]

/-- Half the integer is the pattern's number. -/
theorem halves (z : ℤ) (b : BitVec 16) (h : (z, b) ∈ sizes) :
    ((z : ℝ) : EReal) * ((1 / 2 : ℝ) : EReal) = Ideal.ofBits .bf16 b := by
  rw [← EReal.coe_mul]
  simp only [sizes, List.mem_cons, List.mem_nil_iff, or_false, Prod.mk.injEq] at h
  rcases h with ⟨rfl, rfl⟩ | ⟨rfl, rfl⟩ | ⟨rfl, rfl⟩ | ⟨rfl, rfl⟩ | ⟨rfl, rfl⟩ | ⟨rfl, rfl⟩ | ⟨rfl, rfl⟩ | ⟨rfl, rfl⟩ <;> simp [Ideal.ofBits, Ideal.ieee, -EReal.coe_mul] <;> norm_num

/-- The pattern the reference picks for a code. -/
def pat (n : BitVec 32) : BitVec 16 :=
  Scalar.select (IntOp.cmpi .ne (IntOp.andi n 4#32) 0#32)
    (Scalar.select (IntOp.cmpi .ne (IntOp.andi n 2#32) 0#32)
      (Scalar.select (IntOp.cmpi .ne (IntOp.andi n 1#32) 0#32) 0x40C0#16 0x4080#16)
      (Scalar.select (IntOp.cmpi .ne (IntOp.andi n 1#32) 0#32) 0x4040#16 0x4000#16))
    (Scalar.select (IntOp.cmpi .ne (IntOp.andi n 2#32) 0#32)
      (Scalar.select (IntOp.cmpi .ne (IntOp.andi n 1#32) 0#32) 0x3FC0#16 0x3F80#16)
      (Scalar.select (IntOp.cmpi .ne (IntOp.andi n 1#32) 0#32) 0x3F00#16 0x0000#16))

theorem select_map {α β : Type} (f : α → β) (c : BitVec 1) (a b : α) : Scalar.select c (f a) (f b) = f (Scalar.select c a b) := by
  unfold Scalar.select; split <;> rfl

theorem mag_pat (n : BitVec 32) : ReferenceIdeal.Value.mag n = Ideal.ofBits .bf16 (pat n) := by
  unfold ReferenceIdeal.Value.mag pat
  simp only [select_map (Ideal.ofBits .bf16)]

/-- Every 4-bit code has one of the eight sizes in both texts. -/
theorem mem_sizes (k : Fin 16) : ((KernelIdeal.Body.mag2 (BitVec.ofNat 32 k.val)).toInt, pat (BitVec.ofNat 32 k.val)) ∈ sizes := by
  revert k; decide +kernel

/-- The two texts agree on the size of every 4-bit code. -/
theorem mag_eq (k : Fin 16) : KernelIdeal.Body.mag (BitVec.ofNat 32 k.val) = ReferenceIdeal.Value.mag (BitVec.ofNat 32 k.val) := by
  unfold KernelIdeal.Body.mag
  rw [half_f32, mag_pat]
  have h := halves _ _ (mem_sizes k)
  generalize KernelIdeal.Body.mag2 (BitVec.ofNat 32 k.val) = z at h ⊢
  exact h

/-- The two tests of the sign bit agree. -/
theorem sign_eq (k : Fin 16) : IntOp.cmpi .sge (BitVec.ofNat 32 k.val) 8#32 = IntOp.cmpi .ne (IntOp.andi (BitVec.ofNat 32 k.val) 8#32) 0#32 := by
  revert k; decide +kernel

/-- The two texts agree on the value of every 4-bit code. -/
theorem dec_eq (n : BitVec 32) (h : n.toNat < 16) : KernelIdeal.Body.dec n = ReferenceIdeal.Value.dec n := by
  obtain ⟨k, rfl⟩ : ∃ k : Fin 16, n = BitVec.ofNat 32 k.val := ⟨⟨n.toNat, h⟩, by simp⟩
  unfold KernelIdeal.Body.dec ReferenceIdeal.Value.dec
  rw [mag_eq, sign_eq, zero_sub]

/-! ## The products -/

/-- A weight in an even place, decoded and scaled, in both texts. -/
theorem wt_even (b s : BitVec 8) : KernelIdeal.Body.wt b 0 (KernelIdeal.Body.word s)
    = ReferenceIdeal.Value.dec (ReferenceIdeal.Value.lo b) * ReferenceIdeal.Value.scale s := by
  unfold KernelIdeal.Body.wt
  rw [half_word s 0 (by decide), nib_lo, dec_eq _ (lo_lt b)]

/-- A weight in an odd place, decoded and scaled, in both texts. -/
theorem wt_odd (b s : BitVec 8) : KernelIdeal.Body.wt b 1 (KernelIdeal.Body.word s)
    = ReferenceIdeal.Value.dec (ReferenceIdeal.Value.hi b) * ReferenceIdeal.Value.scale s := by
  unfold KernelIdeal.Body.wt
  rw [half_word s 1 (by decide), nib_hi, dec_eq _ (hi_lt b)]

/-- A sum over the weights in order is the sum over the even ones and the sum over the odd ones. -/
theorem sum_even_odd (f : Fin 6528 → EReal) :
    ∑ k : Fin 6528, f k = (∑ i : Fin 3264, f ⟨2 * i.val, by omega⟩) + ∑ i : Fin 3264, f ⟨2 * i.val + 1, by omega⟩ := by
  rw [← Finset.sum_add_distrib, ← (finProdFinEquiv (m := 3264) (n := 2)).sum_comp f, Fintype.sum_prod_type]
  refine Finset.sum_congr rfl fun i _ => ?_
  rw [Fin.sum_univ_two]
  refine congrArg₂ (· + ·) (congrArg f (Fin.ext ?_)) (congrArg f (Fin.ext ?_))
  · show 0 + 2 * i.val = 2 * i.val; omega
  · show 1 + 2 * i.val = 2 * i.val + 1; omega

/-- **The two programs' results are the same function of the arguments.** -/
theorem value_eq (x : KernelIdeal.S256x1x6528.Idx → EReal) (C : KernelIdeal.S9600x3264.Idx → BitVec 8) (S : KernelIdeal.S9600x204.Idx → BitVec 8) :
    ReferenceIdeal.Value.value x C S = KernelIdeal.Body.value x C S := by
  funext j
  unfold ReferenceIdeal.Value.value KernelIdeal.Body.value
  rw [sum_even_odd]
  refine congrArg₂ (· + ·) (Finset.sum_congr rfl fun i _ => ?_) (Finset.sum_congr rfl fun i _ => ?_)
  · have e1 : (2 * i.val) % 2 = 0 := by omega
    have e2 : (⟨2 * i.val / 2, by omega⟩ : Fin 3264) = i := Fin.ext (by show 2 * i.val / 2 = i.val; omega)
    have e3 : (⟨2 * i.val / 32, by omega⟩ : Fin 204) = ⟨i.val / 16, by omega⟩ := Fin.ext (by show 2 * i.val / 32 = i.val / 16; omega)
    simp only [e1, e2, e3, wt_even]
  · have e1 : (2 * i.val + 1) % 2 = 1 := by omega
    have e2 : (⟨(2 * i.val + 1) / 2, by omega⟩ : Fin 3264) = i := Fin.ext (by show (2 * i.val + 1) / 2 = i.val; omega)
    have e3 : (⟨(2 * i.val + 1) / 32, by omega⟩ : Fin 204) = ⟨i.val / 16, by omega⟩ := Fin.ext (by show (2 * i.val + 1) / 32 = i.val / 16; omega)
    simp only [e1, e2, e3, wt_odd]

end Cert.Compare

end
-- ==== Proof.lean ====
/- The proof of the certificate's claim: the three frames (each program runs to its end, its arguments unchanged and
   every counter at zero), that the idealized kernel is the kernel's own text, and that the idealized kernel and the
   reference compute the same result on the extended reals. -/
module

public import proofs.«01_k».proof.Defs
public import proofs.«01_k».proof.Proof.KernelFrame
public import proofs.«01_k».proof.Proof.KernelIdealFrame
public import proofs.«01_k».proof.Proof.Compare
public import Idealize.ShloMosaic.Lib.Claim

@[expose] public section

noncomputable section

namespace Cert.Proof

open Idealize.ShloMosaic Idealize.SL.Sem

theorem frame_K : Cert.quiescent_Kernel (hKernel := Cert.Kernel.Gen.facts) := fun m g _ => Cert.Kernel.Body.quiescent m g

theorem frame_KI : Cert.quiescent_KernelIdeal (hKernelIdeal := Cert.KernelIdeal.Gen.facts) := fun m g _ =>
  Cert.KernelIdeal.Body.quiescent m g

theorem frame_RI : Cert.quiescent_ReferenceIdeal (hReferenceIdeal := Cert.ReferenceIdeal.Gen.facts) := fun m g _ =>
  θ_run_mono (Cert.ReferenceIdeal.Value.run m g)
    fun r h => ⟨fun c => (h c).2, Idealize.ShloMosaic.sem_eq_zero_of_no_sems (by decide) r.2⟩

/-- Both programs end with the same result: the kernel's product over its arguments, which is the reference's. -/
theorem algebraic : Cert.algebraic_KernelIdeal_ReferenceIdeal (hKernelIdeal := Cert.KernelIdeal.Gen.facts)
    (hReferenceIdeal := Cert.ReferenceIdeal.Gen.facts) := by
  intro m g m' g' _ hagree
  refine ⟨fun c => Cert.KernelIdeal.Body.value (m ((c.tc : Thread Cert.KernelIdeal.nD Cert.KernelIdeal.τ).loc Cert.KernelIdeal.main_arg0))
    (m ((c.tc : Thread Cert.KernelIdeal.nD Cert.KernelIdeal.τ).loc Cert.KernelIdeal.main_arg1))
    (m ((c.tc : Thread Cert.KernelIdeal.nD Cert.KernelIdeal.τ).loc Cert.KernelIdeal.main_arg2)),
    Cert.KernelIdeal.Body.run m g, θ_run_mono (Cert.ReferenceIdeal.Value.run m' g') fun r h c => ⟨?_, (h c).2⟩⟩
  obtain ⟨h0, h1, h2⟩ := hagree c
  refine (h c).1.trans ((Cert.ReferenceIdeal.Value.res_eq m' c).trans ?_)
  rw [h0, h1, h2]
  exact Cert.Compare.value_eq _ _ _

theorem claim : Cert.Claim :=
  ⟨Cert.Kernel.Gen.facts, Cert.KernelIdeal.Gen.facts, Cert.ReferenceIdeal.Gen.facts, frame_K, frame_KI, frame_RI, trivial, algebraic⟩

end Cert.Proof

end
